-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 512]⟩ ⟨3, ![4, 2048, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x512 : Shape := ⟨3, ![1, 2048, 512]⟩
abbrev S512 : Shape := ⟨1, ![512]⟩
abbrev S2048x512 : Shape := ⟨2, ![2048, 512]⟩
abbrev S1x512 : Shape := ⟨2, ![1, 512]⟩
abbrev S512x512 : Shape := ⟨2, ![512, 512]⟩
abbrev S2x512x256 : Shape := ⟨3, ![2, 512, 256]⟩
abbrev S512x256 : Shape := ⟨2, ![512, 256]⟩
abbrev S7 : Shape := ⟨1, ![7]⟩
abbrev S4 : Shape := ⟨1, ![4]⟩
abbrev S1 : Shape := ⟨1, ![1]⟩
abbrev S_ : Shape := ⟨0, ![]⟩
abbrev S1x256x256 : Shape := ⟨3, ![1, 256, 256]⟩
abbrev S256x256 : Shape := ⟨2, ![256, 256]⟩
abbrev S1x512x256 : Shape := ⟨3, ![1, 512, 256]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S1x256 : Shape := ⟨2, ![1, 256]⟩

abbrev nBuf : Space → Nat
  | .hbm => 5
  | .vmem => 11
  | .smem => 0
  | _ => 0

abbrev bufTy : (tb : Table) → Fin (tcTables nBuf tb) → BufTy
  | .hbm, ⟨0, _⟩ => ⟨S1x2048x512, .f32⟩
  | .hbm, ⟨1, _⟩ => ⟨S512, .f32⟩
  | .hbm, ⟨2, _⟩ => ⟨S2048x512, .f32⟩
  | .hbm, ⟨3, _⟩ => ⟨S1x512, .f32⟩
  | .hbm, ⟨4, _⟩ => ⟨S512x512, .f32⟩
  | .local _ .vmem, ⟨0, _⟩ => ⟨S512x512, .f32⟩
  | .local _ .vmem, ⟨1, _⟩ => ⟨S2x512x256, .f32⟩
  | .local _ .vmem, ⟨2, _⟩ => ⟨S2x512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x512, .f32⟩
  | .local _ .vmem, ⟨8, _⟩ => ⟨S512x256, .f32⟩
  | .local _ .vmem, ⟨9, _⟩ => ⟨S512x256, .f32⟩
  | .local _ .vmem, ⟨10, _⟩ => ⟨S1x512, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c3_i32_6 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.subi c3_i32_6 v2
  let c512_i32_7 : BitVec 32 := 512#32
  let v12 : BitVec 32 := Scalar.muli v11 c512_i32_7
  let c0_i32 : BitVec 32 := 0#32
  ![v12.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let c512_i32_8 : BitVec 32 := 512#32
  let v13 : BitVec 32 := Scalar.muli v8 c512_i32_8
  let c256_i32 : BitVec 32 := 256#32
  ![v13.toNat, 256]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v10 : BitVec 32 := Scalar.muli v2 c512_i32
  let c0_i32_11 : BitVec 32 := 0#32
  ![v10.toNat, 0]
def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_14 : BitVec 32 := 1#32
  let v26 : BitVec 32 := Scalar.muli v5 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_17 : BitVec 32 := 1#32
  let v28 : BitVec 32 := Scalar.muli v7 c1_i32_17
  let v29 : BitVec 32 := Scalar.addi c0_i32_18 v28
  v29.toNat
def k0_off4 (d0 : Dev nD) (c0_i32_22 : BitVec 32) : Fin 2 → Nat :=
  let c3_i32_20 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let v30 : BitVec 32 := Scalar.subi c3_i32_20 v8
  let c512_i32_21 : BitVec 32 := 512#32
  let v31 : BitVec 32 := Scalar.muli v30 c512_i32_21
  let v32 : BitVec 32 := Scalar.addi v31 c0_i32_22
  let c0_i32_41 : BitVec 32 := 0#32
  ![v32.toNat, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let c1_i32_37 : BitVec 32 := 1#32
  let v44 : BitVec 32 := Scalar.muli v8 c1_i32_37
  let v45 : BitVec 32 := Scalar.addi c0_i32_38 v44
  v45.toNat
def k0_off5 (d0 : Dev nD) (c0_i32_29 : BitVec 32) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_27 : BitVec 32 := 1#32
  let v37 : BitVec 32 := Scalar.xori v9 c1_i32_27
  let c512_i32_28 : BitVec 32 := 512#32
  let v38 : BitVec 32 := Scalar.muli v37 c512_i32_28
  let v39 : BitVec 32 := Scalar.addi v38 c0_i32_29
  let c256_i32_49 : BitVec 32 := 256#32
  ![v39.toNat, 256]
def k0_dev4 (d0 : Dev nD) : Nat :=
  let c0_i32_46 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_45 : BitVec 32 := 1#32
  let v53 : BitVec 32 := Scalar.muli v9 c1_i32_45
  let v54 : BitVec 32 := Scalar.addi c0_i32_46 v53
  v54.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let c1_i32_53 : BitVec 32 := 1#32
  let v62 : BitVec 32 := Scalar.muli v8 c1_i32_53
  let v63 : BitVec 32 := Scalar.addi c0_i32_54 v62
  v63.toNat
def k0_dev6 (d0 : Dev nD) : Nat :=
  let c0_i32_62 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_61 : BitVec 32 := 1#32
  let v71 : BitVec 32 := Scalar.muli v9 c1_i32_61
  let v72 : BitVec 32 := Scalar.addi c0_i32_62 v71
  v72.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let c512_i32_26 : BitVec 32 := 512#32
  let v36 : BitVec 32 := Scalar.muli v8 c512_i32_26
  let c0_i32_73 : BitVec 32 := 0#32
  ![v36.toNat, 0]
def k0_dev7 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let c1_i32_69 : BitVec 32 := 1#32
  let v80 : BitVec 32 := Scalar.muli v8 c1_i32_69
  let v81 : BitVec 32 := Scalar.addi c0_i32_70 v80
  v81.toNat
def k0_off7 (d0 : Dev nD) : Fin 2 → Nat :=
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c512_i32_33 : BitVec 32 := 512#32
  let v43 : BitVec 32 := Scalar.muli v9 c512_i32_33
  let c256_i32_81 : BitVec 32 := 256#32
  ![v43.toNat, 256]
def k0_dev8 (d0 : Dev nD) : Nat :=
  let c0_i32_78 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_77 : BitVec 32 := 1#32
  let v89 : BitVec 32 := Scalar.muli v9 c1_i32_77
  let v90 : BitVec 32 := Scalar.addi c0_i32_78 v89
  v90.toNat
def k0_dev9 (d0 : Dev nD) : Nat :=
  let c0_i32_101 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_100 : BitVec 32 := 1#32
  let v115 : BitVec 32 := Scalar.muli v9 c1_i32_100
  let v116 : BitVec 32 := Scalar.addi c0_i32_101 v115
  v116.toNat
def k0_dev10 (d0 : Dev nD) : Nat :=
  let c0_i32_109 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_108 : BitVec 32 := 1#32
  let v123 : BitVec 32 := Scalar.muli v9 c1_i32_108
  let v124 : BitVec 32 := Scalar.addi c0_i32_109 v123
  v124.toNat
def k0_dev11 (d0 : Dev nD) : Nat :=
  let c0_i32_133 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let c1_i32_132 : BitVec 32 := 1#32
  let v148 : BitVec 32 := Scalar.muli v8 c1_i32_132
  let v149 : BitVec 32 := Scalar.addi c0_i32_133 v148
  v149.toNat
def k0_dev12 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let c1_i32_140 : BitVec 32 := 1#32
  let v156 : BitVec 32 := Scalar.muli v8 c1_i32_140
  let v157 : BitVec 32 := Scalar.addi c0_i32_141 v156
  v157.toNat
def k0_dev13 (d0 : Dev nD) : Nat :=
  let c0_i32_162 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_161 : BitVec 32 := 1#32
  let v178 : BitVec 32 := Scalar.muli v9 c1_i32_161
  let v179 : BitVec 32 := Scalar.addi c0_i32_162 v178
  v179.toNat
def k0_dev14 (d0 : Dev nD) : Nat :=
  let c0_i32_169 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v9 : BitVec 32 := Scalar.subi c3_i32 v2
  let c1_i32_168 : BitVec 32 := 1#32
  let v186 : BitVec 32 := Scalar.muli v9 c1_i32_168
  let v187 : BitVec 32 := Scalar.addi c0_i32_169 v186
  v187.toNat
def k0_dev15 (d0 : Dev nD) : Nat :=
  let c0_i32_191 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let c1_i32_190 : BitVec 32 := 1#32
  let v208 : BitVec 32 := Scalar.muli v8 c1_i32_190
  let v209 : BitVec 32 := Scalar.addi c0_i32_191 v208
  v209.toNat
def k0_dev16 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v8 : BitVec 32 := Scalar.xori v2 c1_i32_5
  let c1_i32_198 : BitVec 32 := 1#32
  let v216 : BitVec 32 := Scalar.muli v8 c1_i32_198
  let v217 : BitVec 32 := Scalar.addi c0_i32_199 v216
  v217.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x2048x512 : Shape := ⟨3, ![4, 2048, 512]⟩
abbrev S512 : Shape := ⟨1, ![512]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S512, .f32⟩
  | .hbm, ⟨2, _⟩ => ⟨S_, .f32⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x512, .f32⟩
  | .hbm, ⟨16, _⟩ => ⟨S2048x512, .f32⟩
  | .hbm, ⟨17, _⟩ => ⟨S1x512, .f32⟩
  | .hbm, ⟨18, _⟩ => ⟨S2048x512, .f32⟩
  | .hbm, ⟨19, _⟩ => ⟨S2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Common.lean ====
/- The protocol of the reduce-scatter kernel on the mesh: the neighbours, the regions that the copies move, what each
   buffer holds, the semaphore cells with their duties and payloads, the levels, and what a device still owes. -/
module

public import proofs.«01_k».proof.Proof.Gen.KernelIdeal.Skeleton
public import proofs.«01_k».proof.Proof.Gen.KernelIdeal.Frame

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline library's copy and the protocol's, whose duties are booleans -/

abbrev URM : Type := Rounds.URounds (GSem nD τ sig) Bool
abbrev UU : Type := UR sig nD τ × URM

local notation "𝕄" => MT nD τ sig Unit (Elt F) ℕ UU ℕ

abbrev EP : Emb (UR sig nD τ) (MT nD τ sig Unit (Elt F) ℕ UU ℕ) := embL
abbrev ER : Emb URM (MT nD τ sig Unit (Elt F) ℕ UU ℕ) := embR

variable (m : (ℓ : Loc nD τ sig) → Buf (Elt F) ℓ)

/-! ## The neighbours on the ring -/

/-- The partner of the first-phase `a` exchange: the device number with its last bit flipped. -/
def q : Dev nD → Dev nD := ![1, 0, 3, 2]
/-- The partner of the first-phase `b` exchange: the device number's mirror image. -/
def r : Dev nD → Dev nD := ![3, 2, 1, 0]
/-- The ring neighbours that the entry barrier signals. -/
def lft : Dev nD → Dev nD := ![3, 0, 1, 2]
def rgt : Dev nD → Dev nD := ![1, 2, 3, 0]

theorem q_q (c : Dev nD) : q (q c) = c := by revert c; decide
theorem r_r (c : Dev nD) : r (r c) = c := by revert c; decide
theorem rgt_lft (c : Dev nD) : rgt (lft c) = c := by revert c; decide
theorem lft_rgt (c : Dev nD) : lft (rgt c) = c := by revert c; decide

theorem dev1 (c : Dev nD) : (⟨k0_dev1 c, k0_dev1_lt c⟩ : Dev nD) = lft c := by revert c; decide
theorem dev2 (c : Dev nD) : (⟨k0_dev2 c, k0_dev2_lt c⟩ : Dev nD) = rgt c := by revert c; decide
theorem dev3 (c : Dev nD) : (⟨k0_dev3 c, k0_dev3_lt c⟩ : Dev nD) = q c := by revert c; decide
theorem dev4 (c : Dev nD) : (⟨k0_dev4 c, k0_dev4_lt c⟩ : Dev nD) = r c := by revert c; decide
theorem dev5 (c : Dev nD) : (⟨k0_dev5 c, k0_dev5_lt c⟩ : Dev nD) = q c := by revert c; decide
theorem dev6 (c : Dev nD) : (⟨k0_dev6 c, k0_dev6_lt c⟩ : Dev nD) = r c := by revert c; decide
theorem dev7 (c : Dev nD) : (⟨k0_dev7 c, k0_dev7_lt c⟩ : Dev nD) = q c := by revert c; decide
theorem dev8 (c : Dev nD) : (⟨k0_dev8 c, k0_dev8_lt c⟩ : Dev nD) = r c := by revert c; decide
theorem dev9 (c : Dev nD) : (⟨k0_dev9 c, k0_dev9_lt c⟩ : Dev nD) = r c := by revert c; decide
theorem dev10 (c : Dev nD) : (⟨k0_dev10 c, k0_dev10_lt c⟩ : Dev nD) = r c := by revert c; decide
theorem dev11 (c : Dev nD) : (⟨k0_dev11 c, k0_dev11_lt c⟩ : Dev nD) = q c := by revert c; decide
theorem dev12 (c : Dev nD) : (⟨k0_dev12 c, k0_dev12_lt c⟩ : Dev nD) = q c := by revert c; decide
theorem dev13 (c : Dev nD) : (⟨k0_dev13 c, k0_dev13_lt c⟩ : Dev nD) = r c := by revert c; decide
theorem dev14 (c : Dev nD) : (⟨k0_dev14 c, k0_dev14_lt c⟩ : Dev nD) = r c := by revert c; decide
theorem dev15 (c : Dev nD) : (⟨k0_dev15 c, k0_dev15_lt c⟩ : Dev nD) = q c := by revert c; decide
theorem dev16 (c : Dev nD) : (⟨k0_dev16 c, k0_dev16_lt c⟩ : Dev nD) = q c := by revert c; decide

/-! ## The buffers, and the regions of them that the copies move -/

abbrev a0M : Memref sig .tc .hbm S2048x512 .f32 := Memref.whole main_v1
abbrev a1M : Memref sig .tc .hbm S1x512 .f32 := Memref.whole main_v2
abbrev a2M : Memref sig .tc .vmem S512x512 .f32 := Memref.whole cc0_stg0_0
abbrev a3M : Memref sig .tc .vmem S2x512x256 .f32 := Memref.whole cc0_scratch0
abbrev a4M : Memref sig .tc .vmem S2x512x256 .f32 := Memref.whole cc0_scratch1
abbrev a5M : Memref sig .tc .vmem S512x256 .f32 := Memref.whole cc0_scratch2
abbrev a6M : Memref sig .tc .vmem S512x256 .f32 := Memref.whole cc0_scratch3
abbrev a7M : Memref sig .tc .vmem S512x256 .f32 := Memref.whole cc0_scratch4
abbrev a8M : Memref sig .tc .vmem S512x256 .f32 := Memref.whole cc0_scratch5
abbrev a9M : Memref sig .tc .vmem S512x512 .f32 := Memref.whole cc0_scratch6
abbrev a10M : Memref sig .tc .vmem S512x256 .f32 := Memref.whole cc0_scratch7
abbrev a11M : Memref sig .tc .vmem S512x256 .f32 := Memref.whole cc0_scratch8
abbrev a12M : Memref sig .tc .vmem S1x512 .f32 := Memref.whole cc0_scratch9

abbrev xOWN (c : Dev nD) : Memref sig .tc .hbm S512x512 .f32 := a0M.slice (Rect.unit (s := S2048x512) (k0_off3 c) S512x512.size (k0_off3_inb c)) (fun _ => rfl)
abbrev xFA (c : Dev nD) : Memref sig .tc .hbm S512x256 .f32 := a0M.slice (Rect.unit (s := S2048x512) (k0_off1 c) S512x256.size (k0_off1_inb c)) (fun _ => rfl)
abbrev xFB (c : Dev nD) : Memref sig .tc .hbm S512x256 .f32 := a0M.slice (Rect.unit (s := S2048x512) (k0_off2 c) S512x256.size (k0_off2_inb c)) (fun _ => rfl)
abbrev xA0 (c : Dev nD) : Memref sig .tc .hbm S256x256 .f32 := a0M.slice (Rect.unit (s := S2048x512) (k0_off4 c 0#32) S256x256.size (k0_off4_inb c 0)) (fun _ => rfl)
abbrev xA1 (c : Dev nD) : Memref sig .tc .hbm S256x256 .f32 := a0M.slice (Rect.unit (s := S2048x512) (k0_off4 c 256#32) S256x256.size (k0_off4_inb c 1)) (fun _ => rfl)
abbrev xA2 (c : Dev nD) : Memref sig .tc .hbm S512x256 .f32 := a0M.slice (Rect.unit (s := S2048x512) (k0_off6 c) S512x256.size (k0_off6_inb c)) (fun _ => rfl)
abbrev xB0 (c : Dev nD) : Memref sig .tc .hbm S256x256 .f32 := a0M.slice (Rect.unit (s := S2048x512) (k0_off5 c 0#32) S256x256.size (k0_off5_inb c 0)) (fun _ => rfl)
abbrev xB1 (c : Dev nD) : Memref sig .tc .hbm S256x256 .f32 := a0M.slice (Rect.unit (s := S2048x512) (k0_off5 c 256#32) S256x256.size (k0_off5_inb c 1)) (fun _ => rfl)
abbrev xB2 (c : Dev nD) : Memref sig .tc .hbm S512x256 .f32 := a0M.slice (Rect.unit (s := S2048x512) (k0_off7 c) S512x256.size (k0_off7_inb c)) (fun _ => rfl)

/-- The three landing regions of a first-phase buffer: the two halves of its slot 0, and its slot 1. -/
abbrev w0 (M : Memref sig .tc .vmem S2x512x256 .f32) : Memref sig .tc .vmem S256x256 .f32 :=
  (M.slice (Rect.unit (s := S2x512x256) ![0, 0, 0] S1x256x256.size inb_S2x512x256_S1x256x256_0_0_0) (fun _ => rfl)).squeeze S256x256 squeezes_S1x256x256_S256x256
abbrev w1 (M : Memref sig .tc .vmem S2x512x256 .f32) : Memref sig .tc .vmem S256x256 .f32 :=
  (M.slice (Rect.unit (s := S2x512x256) ![0, 256, 0] S1x256x256.size inb_S2x512x256_S1x256x256_0_256_0) (fun _ => rfl)).squeeze S256x256 squeezes_S1x256x256_S256x256
abbrev w2 (M : Memref sig .tc .vmem S2x512x256 .f32) : Memref sig .tc .vmem S512x256 .f32 :=
  (M.slice (Rect.unit (s := S2x512x256) ![1, 0, 0] S1x512x256.size inb_S2x512x256_S1x512x256_1_0_0) (fun _ => rfl)).squeeze S512x256 squeezes_S1x512x256_S512x256

/-- The four quarters of a second-phase buffer. -/
abbrev z0 (M : Memref sig .tc .vmem S512x256 .f32) : Memref sig .tc .vmem S128x256 .f32 :=
  M.slice (Rect.unit (s := S512x256) ![0, 0] S128x256.size inb_S512x256_S128x256_0_0) (fun _ => rfl)
abbrev z1 (M : Memref sig .tc .vmem S512x256 .f32) : Memref sig .tc .vmem S128x256 .f32 :=
  M.slice (Rect.unit (s := S512x256) ![128, 0] S128x256.size inb_S512x256_S128x256_128_0) (fun _ => rfl)
abbrev z2 (M : Memref sig .tc .vmem S512x256 .f32) : Memref sig .tc .vmem S128x256 .f32 :=
  M.slice (Rect.unit (s := S512x256) ![256, 0] S128x256.size inb_S512x256_S128x256_256_0) (fun _ => rfl)
abbrev z3 (M : Memref sig .tc .vmem S512x256 .f32) : Memref sig .tc .vmem S128x256 .f32 :=
  M.slice (Rect.unit (s := S512x256) ![384, 0] S128x256.size inb_S512x256_S128x256_384_0) (fun _ => rfl)

/-- The rectangles that the vector loads and stores go through: in a first-phase buffer, -/
abbrev D0 : Rect S2x512x256 := Rect.unit (s := S2x512x256) ![0, 0, 0] S1x256x256.size inb_S2x512x256_S1x256x256_0_0_0
abbrev D1 : Rect S2x512x256 := Rect.unit (s := S2x512x256) ![0, 256, 0] S1x256x256.size inb_S2x512x256_S1x256x256_0_256_0
abbrev D2 : Rect S2x512x256 := Rect.unit (s := S2x512x256) ![1, 0, 0] S1x512x256.size inb_S2x512x256_S1x512x256_1_0_0
abbrev DD : Rect S2x512x256 := Rect.unit (s := S2x512x256) ![0, 0, 0] S1x512x256.size inb_S2x512x256_S1x512x256_0_0_0
abbrev E0 : Rect S2x512x256 := Rect.unit (s := S2x512x256) ![0, 0, 0] S1x128x256.size inb_S2x512x256_S1x128x256_0_0_0
abbrev E1 : Rect S2x512x256 := Rect.unit (s := S2x512x256) ![0, 128, 0] S1x128x256.size inb_S2x512x256_S1x128x256_0_128_0
abbrev E2 : Rect S2x512x256 := Rect.unit (s := S2x512x256) ![0, 256, 0] S1x128x256.size inb_S2x512x256_S1x128x256_0_256_0
abbrev E3 : Rect S2x512x256 := Rect.unit (s := S2x512x256) ![0, 384, 0] S1x128x256.size inb_S2x512x256_S1x128x256_0_384_0
/-- the halves and the quarters of a buffer of 512 rows by 256 columns, -/
abbrev H0 : Rect S512x256 := Rect.unit (s := S512x256) ![0, 0] S256x256.size inb_S512x256_S256x256_0_0
abbrev H1 : Rect S512x256 := Rect.unit (s := S512x256) ![256, 0] S256x256.size inb_S512x256_S256x256_256_0
abbrev Q0 : Rect S512x256 := Rect.unit (s := S512x256) ![0, 0] S128x256.size inb_S512x256_S128x256_0_0
abbrev Q1 : Rect S512x256 := Rect.unit (s := S512x256) ![128, 0] S128x256.size inb_S512x256_S128x256_128_0
abbrev Q2 : Rect S512x256 := Rect.unit (s := S512x256) ![256, 0] S128x256.size inb_S512x256_S128x256_256_0
abbrev Q3 : Rect S512x256 := Rect.unit (s := S512x256) ![384, 0] S128x256.size inb_S512x256_S128x256_384_0
/-- the column halves and the blocks of a buffer of 512 rows by 512 columns, and the halves of the weights. -/
abbrev C0 : Rect S512x512 := Rect.unit (s := S512x512) ![0, 0] S512x256.size inb_S512x512_S512x256_0_0
abbrev C1 : Rect S512x512 := Rect.unit (s := S512x512) ![0, 256] S512x256.size inb_S512x512_S512x256_0_256
abbrev U00 : Rect S512x512 := Rect.unit (s := S512x512) ![0, 0] S128x256.size inb_S512x512_S128x256_0_0
abbrev U01 : Rect S512x512 := Rect.unit (s := S512x512) ![0, 256] S128x256.size inb_S512x512_S128x256_0_256
abbrev U10 : Rect S512x512 := Rect.unit (s := S512x512) ![128, 0] S128x256.size inb_S512x512_S128x256_128_0
abbrev U11 : Rect S512x512 := Rect.unit (s := S512x512) ![128, 256] S128x256.size inb_S512x512_S128x256_128_256
abbrev U20 : Rect S512x512 := Rect.unit (s := S512x512) ![256, 0] S128x256.size inb_S512x512_S128x256_256_0
abbrev U21 : Rect S512x512 := Rect.unit (s := S512x512) ![256, 256] S128x256.size inb_S512x512_S128x256_256_256
abbrev U30 : Rect S512x512 := Rect.unit (s := S512x512) ![384, 0] S128x256.size inb_S512x512_S128x256_384_0
abbrev U31 : Rect S512x512 := Rect.unit (s := S512x512) ![384, 256] S128x256.size inb_S512x512_S128x256_384_256
abbrev G0 : Rect S1x512 := Rect.unit (s := S1x512) ![0, 0] S1x256.size inb_S1x512_S1x256_0_0
abbrev G1 : Rect S1x512 := Rect.unit (s := S1x512) ![0, 256] S1x256.size inb_S1x512_S1x256_0_256

/-- Holding a memref's elements on device `c`, in full, at the contents `f` of its buffer. -/
abbrev vpt {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

/-! ## What the buffers hold -/

/-- Device `c`'s partial sums and weights, as the host prefix leaves them. -/
def X (c : Dev nD) : Vec F S2048x512 .f32 := V m c main_v1
def G (c : Dev nD) : Vec F S1x512 .f32 := V m c main_v2

/-- The slices of its partial sums that device `c` copies and sends. -/
def OWN (c : Dev nD) : Vec F S512x512 .f32 := (xOWN c).view.read (Elt F) (X m c)
def FA (c : Dev nD) : Vec F S512x256 .f32 := (xFA c).view.read (Elt F) (X m c)
def FB (c : Dev nD) : Vec F S512x256 .f32 := (xFB c).view.read (Elt F) (X m c)
def XA0 (c : Dev nD) : Vec F S256x256 .f32 := (xA0 c).view.read (Elt F) (X m c)
def XA1 (c : Dev nD) : Vec F S256x256 .f32 := (xA1 c).view.read (Elt F) (X m c)
def XA2 (c : Dev nD) : Vec F S512x256 .f32 := (xA2 c).view.read (Elt F) (X m c)
def XB0 (c : Dev nD) : Vec F S256x256 .f32 := (xB0 c).view.read (Elt F) (X m c)
def XB1 (c : Dev nD) : Vec F S256x256 .f32 := (xB1 c).view.read (Elt F) (X m c)
def XB2 (c : Dev nD) : Vec F S512x256 .f32 := (xB2 c).view.read (Elt F) (X m c)

/-- A tile as a vector load sees it, with a leading axis of one. -/
def V1 (w : Vec F S256x256 .f32) : Vec F S1x256x256 .f32 := fun j => w ((Shape.reshapeEquiv (s := S1x256x256) (s' := S256x256) (by decide)).symm j)
def V3 (w : Vec F S512x256 .f32) : Vec F S1x512x256 .f32 := fun j => w ((Shape.reshapeEquiv (s := S1x512x256) (s' := S512x256) (by decide)).symm j)

/-- A value to fill the unwritten rest of a buffer with. -/
def base (c : Dev nD) : Elt F .f32 := X m c (fun a => ⟨0, by revert a; decide⟩)

/-- What device `c` sends on in the second phase: in each half, what landed and its own slice, added. -/
def SA2 (c : Dev nD) : Vec F S512x256 .f32 :=
  (a5M.access H1).write (Elt F) ((a5M.access H0).write (Elt F) (fun _ => base m c)
    (k0_pay1 (V1 (XA0 m (q c))) ((a10M.access H0).read (Elt F) (FA m c))) Finset.univ)
    (k0_pay4 (V1 (XA1 m (q c))) ((a10M.access H1).read (Elt F) (FA m c))) Finset.univ
def SB2 (c : Dev nD) : Vec F S512x256 .f32 :=
  (a6M.access H1).write (Elt F) ((a6M.access H0).write (Elt F) (fun _ => base m c)
    (k0_pay3 (k0_pay2 (V1 (XB0 m (r c)))) ((a11M.access H0).read (Elt F) (FB m c))) Finset.univ)
    (k0_pay5 (V1 (XB1 m (r c))) ((a11M.access H1).read (Elt F) (FB m c))) Finset.univ

/-- What device `c` keeps in slot 0 of its first-phase buffers: the slice landed in slot 1 and its own block's half, added. -/
def YA (c : Dev nD) : Vec F S2x512x256 .f32 :=
  (a3M.access DD).write (Elt F) (fun _ => base m c) (k0_pay6 (V3 (XA2 m (q c))) ((a9M.access C0).read (Elt F) (OWN m c))) Finset.univ
def YB (c : Dev nD) : Vec F S2x512x256 .f32 :=
  (a4M.access DD).write (Elt F) (fun _ => base m c) (k0_pay8 (k0_pay7 (V3 (XB2 m (r c))) ((a9M.access C1).read (Elt F) (OWN m c)))) Finset.univ

end Cert.KernelIdeal.Mesh
-- ==== Proof.Sched.lean ====
/- The schedule: the semaphore cells, what each landing hands over, the levels, and what a device still owes. -/
module

public import proofs.«01_k».proof.Proof.Common

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells -/

abbrev barS : Sem sig := (SemArray.scalar (sig.barrier 0 rfl) : Sems sig S_).sem
abbrev ds (k : Nat) (h : k < 33 := by decide) : DmaSem sig := ⟨k, h⟩
abbrev barCell (c : Dev nD) : GSem nD τ sig := ((c : Thread nD τ), .reg barS)
abbrev dCell (c : Dev nD) (s : DmaSem sig) : GSem nD τ sig := ((c : Thread nD τ), .dma s)

/-- The kernel's own semaphores. -/
abbrev osem (k : Fin 32) : SemLoc sig := .dma ⟨k.val + 1, by have := k.isLt; show k.val + 1 < 33; omega⟩

/-- The units a copy onto each DMA semaphore credits. -/
def amt (s : DmaSem sig) : ℕ :=
  match s.val with
  | 1 | 2 | 8 | 9 | 15 | 16 | 22 | 23 => (w0 a3M).view.dmaCredit
  | 3 | 10 | 17 | 24 | 30 | 31 => a10M.view.dmaCredit
  | 29 => a9M.view.dmaCredit
  | 32 => a12M.view.dmaCredit
  | _ => (z0 a7M).view.dmaCredit

theorem amt_pos (s : DmaSem sig) : 0 < amt s := by
  unfold amt
  split <;> exact View.dmaCredit_pos _ (by decide)

/-! ## What the landings hand over -/

/-- Device `d`'s own cells are open. -/
def rch (d : Dev nD) : sProp 𝕄 := bigSep Finset.univ fun k : Fin 32 => reached ER ((d : Thread nD τ), osem k) 0

instance rch_persistent (d : Dev nD) : BI.Persistent (rch (F := F) d) := by unfold rch; infer_instance

/-- What device `d`'s entry signal to its ring neighbour `e` hands over: the two buffers of `d` that `e` copies into. -/
def give (d e : Dev nD) : sProp 𝕄 :=
  if e = q d then iprop((∃ f, vpt a3M d f) ∗ (∃ f, vpt a8M d f) ∗ rch d)
  else iprop((∃ f, vpt a4M d f) ∗ (∃ f, vpt a7M d f) ∗ rch d)

/-- What a landing on the DMA semaphore `s` of device `c` hands over. -/
def cellPay (c : Dev nD) (s : DmaSem sig) : sProp 𝕄 :=
  match s.val with
  | 1 => vpt (xA0 c) c (X m c)
  | 2 => vpt (xA1 c) c (X m c)
  | 3 => vpt (xA2 c) c (X m c)
  | 4 => vpt (z0 a5M) c (SA2 m c)
  | 5 => vpt (z1 a5M) c (SA2 m c)
  | 6 => vpt (z2 a5M) c (SA2 m c)
  | 7 => vpt (z3 a5M) c (SA2 m c)
  | 8 => iprop(∃ f, vpt (w0 a3M) c ((w0 a3M).view.write (Elt F) f (XA0 m (q c)) Finset.univ))
  | 9 => iprop(∃ f, vpt (w1 a3M) c ((w1 a3M).view.write (Elt F) f (XA1 m (q c)) Finset.univ))
  | 10 => iprop(∃ f, vpt (w2 a3M) c ((w2 a3M).view.write (Elt F) f (XA2 m (q c)) Finset.univ))
  | 11 => vpt (z0 a7M) c (SA2 m (r c))
  | 12 => vpt (z1 a7M) c (SA2 m (r c))
  | 13 => vpt (z2 a7M) c (SA2 m (r c))
  | 14 => vpt (z3 a7M) c (SA2 m (r c))
  | 15 => vpt (xB0 c) c (X m c)
  | 16 => vpt (xB1 c) c (X m c)
  | 17 => vpt (xB2 c) c (X m c)
  | 18 => vpt (z0 a6M) c (SB2 m c)
  | 19 => vpt (z1 a6M) c (SB2 m c)
  | 20 => vpt (z2 a6M) c (SB2 m c)
  | 21 => vpt (z3 a6M) c (SB2 m c)
  | 22 => iprop(∃ f, vpt (w0 a4M) c ((w0 a4M).view.write (Elt F) f (XB0 m (r c)) Finset.univ))
  | 23 => iprop(∃ f, vpt (w1 a4M) c ((w1 a4M).view.write (Elt F) f (XB1 m (r c)) Finset.univ))
  | 24 => iprop(∃ f, vpt (w2 a4M) c ((w2 a4M).view.write (Elt F) f (XB2 m (r c)) Finset.univ))
  | 25 => vpt (z0 a8M) c (SB2 m (q c))
  | 26 => vpt (z1 a8M) c (SB2 m (q c))
  | 27 => vpt (z2 a8M) c (SB2 m (q c))
  | 28 => vpt (z3 a8M) c (SB2 m (q c))
  | 29 => iprop(vpt a9M c (OWN m c) ∗ vpt (xOWN c) c (X m c))
  | 30 => iprop(vpt a10M c (FA m c) ∗ vpt (xFA c) c (X m c))
  | 31 => iprop(vpt a11M c (FB m c) ∗ vpt (xFB c) c (X m c))
  | 32 => iprop(vpt a12M c (G m c) ∗ vpt a1M c (G m c))
  | _ => iprop(emp)

instance give_storable (d e : Dev nD) : BI.Storable (upEmb : UEmb _ 𝕄) (give (F := F) d e) := by
  unfold give rch; split <;> infer_instance

instance cellPay_storable (c : Dev nD) (s : DmaSem sig) : BI.Storable (upEmb : UEmb _ 𝕄) (cellPay m c s) := by
  unfold cellPay; split <;> infer_instance

/-! ## The schedule: one round per cell, two duties on a barrier cell and one on a copy's -/

def duty (sl : SemLoc sig) : Finset Bool :=
  match sl with
  | .reg s => if s = barS then Finset.univ else ∅
  | .dma s => if s.val = 0 then ∅ else {false}

def Rd : Rounds.Schedule (GSem nD τ sig) Bool 𝕄 where
  duties g k := if k = 0 ∧ g.1.2 = .tc then duty g.2 else ∅
  unitless _ := False
  amount g _ _ := match g.2 with | .reg _ => 1 | .dma s => amt s
  payload g _ d := match g.2 with
    | .reg _ => give (if d then rgt g.1.1 else lft g.1.1) g.1.1
    | .dma s => cellPay m g.1.1 s
  amount_pos g _ _ _ := by
    rcases g with ⟨t, s | s⟩
    · exact Nat.one_pos
    · exact amt_pos s

instance Rd_storable (g : GSem nD τ sig) (k : ℕ) (d : Bool) :
    BI.Storable (upEmb : UEmb _ 𝕄) ((Rd (F := F) m).payload g k d) := by
  rcases g with ⟨t, s | s⟩
  · exact give_storable _ _
  · exact cellPay_storable m _ _

theorem duties_bar (c : Dev nD) : (Rd (F := F) m).duties (barCell c) 0 = Finset.univ :=
  rfl
theorem duties_dma (c : Dev nD) (s : DmaSem sig) (hs : s.val ≠ 0) : (Rd (F := F) m).duties (dCell c s) 0 = {false} :=
  show duty (.dma s) = {false} from if_neg hs
theorem duties_later (g : GSem nD τ sig) : ∀ k, 1 ≤ k → (Rd (F := F) m).duties g k = ∅ :=
  fun k hk => if_neg (fun h => by omega)

theorem expect_bar (c : Dev nD) : (Rd (F := F) m).expect (barCell c) 0 = 2 := by
  unfold Schedule.expect Schedule.amountOf
  rw [duties_bar]; rfl
theorem expect_dma (c : Dev nD) (s : DmaSem sig) (hs : s.val ≠ 0) : (Rd (F := F) m).expect (dCell c s) 0 = amt s := by
  unfold Schedule.expect Schedule.amountOf
  rw [duties_dma m c s hs, Finset.sum_singleton]; rfl
theorem rest_bar (c : Dev nD) :
    bigSep ((Rd (F := F) m).duties (barCell c) 0 \ ∅) (fun d => (Rd (F := F) m).payload (barCell c) 0 d)
      = iprop(give (lft c) c ∗ give (rgt c) c) := by
  rw [Finset.sdiff_empty, duties_bar]
  exact bigSep_univ_eq_bigSepL [false, true] (by decide) (by decide) _
theorem rest_dma (c : Dev nD) (s : DmaSem sig) (hs : s.val ≠ 0) :
    bigSep ((Rd (F := F) m).duties (dCell c s) 0 \ ∅) (fun d => (Rd (F := F) m).payload (dCell c s) 0 d) = cellPay m c s := by
  rw [Finset.sdiff_empty, duties_dma m c s hs, bigSep_singleton]; rfl

/-! ## Levels, and what a device owes -/

def L (g : GSem nD τ sig) : Finset Unit := if g.1.2 = .tc then {()} else ∅
theorem L_of_ne (g : GSem nD τ sig) (h : g.1.2 ≠ .tc) : L g = ∅ := if_neg h
theorem L_tc (c : Dev nD) (sl : SemLoc sig) : L ((c : Thread nD τ), sl) = {()} := if_pos rfl

/-- A wait is allowed while everything owed lies at a higher level: local copies and sends at 0, the entry barrier at 1,
    the first-phase landings at 2, the second-phase landings at 3. -/
def lvS (sl : SemLoc sig) : ℕ :=
  match sl with
  | .reg _ => 1
  | .dma s => match s.val with
    | 8 | 9 | 10 | 22 | 23 | 24 => 2
    | 11 | 12 | 13 | 14 | 25 | 26 | 27 | 28 => 3
    | _ => 0
def lv (g : GSem nD τ sig) (_ : Unit) : ℕ := lvS g.2

/-- The debts in program order: whom (0, 1 the ring neighbours, 2 the partner `q`, 3 the partner `r`) and on what semaphore. -/
def oSem : Fin 16 → SemLoc sig :=
  ![.reg barS, .reg barS, .dma (ds 8), .dma (ds 22), .dma (ds 9), .dma (ds 23), .dma (ds 10), .dma (ds 24),
    .dma (ds 11), .dma (ds 12), .dma (ds 25), .dma (ds 26), .dma (ds 13), .dma (ds 14), .dma (ds 27), .dma (ds 28)]
def oDev (c : Dev nD) : Fin 16 → Dev nD :=
  ![lft c, rgt c, q c, r c, q c, r c, q c, r c, r c, r c, q c, q c, r c, r c, q c, q c]
def semAmt (sl : SemLoc sig) : ℕ := match sl with | .reg _ => 1 | .dma s => amt s
abbrev oCell (c : Dev nD) (i : Fin 16) : GSem nD τ sig := ((oDev c i : Thread nD τ), oSem i)

def debt (c : Dev nD) (l : List (Fin 16)) : CellTallies nD τ sig Unit :=
  l.foldr (fun i acc => acc + tallyAt (oCell c i) () (semAmt (oSem i))) 0

theorem debt_cons (c : Dev nD) (i : Fin 16) (l : List (Fin 16)) :
    debt c (i :: l) = debt c l + tallyAt (oCell c i) () (semAmt (oSem i)) := rfl

theorem debt_pos (c : Dev nD) (l : List (Fin 16)) (g : GSem nD τ sig) (u : Unit) (h : 0 < debt c l g u) : ∃ i ∈ l, g = oCell c i := by
  induction l with
  | nil => exact absurd h (Nat.lt_irrefl 0)
  | cons i l ih =>
    rw [debt_cons] at h
    by_cases hg : g = oCell c i
    · exact ⟨i, List.mem_cons_self .., hg⟩
    · have : 0 < debt c l g u := by
        have e : (debt c l + tallyAt (oCell c i) () (semAmt (oSem i))) g u = debt c l g u + tallyAt (oCell c i) () (semAmt (oSem i)) g u := rfl
        rw [e, tallyAt_apply, if_neg (fun h => hg h.1)] at h
        exact h
      obtain ⟨j, hj, e⟩ := ih this
      exact ⟨j, List.mem_cons_of_mem _ hj, e⟩

theorem mayWait_debt (c : Dev nD) (sl : SemLoc sig) (l : List (Fin 16)) (h : ∀ i ∈ l, lvS sl < lvS (oSem i)) :
    (levAts L lv : sProp 𝕄) ⊢ MayWait (c : Thread nD τ) sl () (debt c l) :=
  MayOwe.of_cut (L := L) (lev := lv) (lvS sl) (fun p hp => by rw [Finset.mem_singleton.mp hp, L_tc]; exact Finset.mem_singleton_self _)
    (fun g u hg => by
      obtain ⟨i, -, e⟩ := debt_pos c l g u hg
      rw [e, L_tc]; exact Finset.mem_singleton_self _)
    (fun p hp => by rw [Finset.mem_singleton.mp hp]; exact le_rfl)
    (fun g u hg => by
      obtain ⟨i, hi, e⟩ := debt_pos c l g u hg
      rw [e]; exact h i hi)

end Cert.KernelIdeal.Mesh
-- ==== Proof.Steps.lean ====
/- One rule per operation of the kernel's body, over the schedule: an entry signal, the entry wait, a local copy, a send, a wait,
   a vector load and a vector store. -/
module

public import proofs.«01_k».proof.Proof.Sched

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ)

abbrev 𝒱₀ : Variants := Variants.none

/-! ## What every step may use -/

/-- The invariants of a device's cells, and of every device's, at the names `K`. -/
def InvC (c : Dev nD) : sProp 𝕄 := iprop(cellInv ER (Rd m) (K (barCell c)) (barCell c)
    ∗ bigSep Finset.univ fun k : Fin 32 => cellInv ER (Rd m) (K ((c : Thread nD τ), osem k)) ((c : Thread nD τ), osem k))
instance InvC_persistent (c : Dev nD) : BI.Persistent (InvC m K c) := by unfold InvC; infer_instance
def Inv : sProp 𝕄 := bigSep Finset.univ fun c : Dev nD => InvC m K c
instance Inv_persistent : BI.Persistent (Inv m K) := by unfold Inv; infer_instance

/-- Before the entry barrier a device knows its own cells open, and every barrier cell. -/
def EnvA (c : Dev nD) : sProp 𝕄 :=
  iprop(Inv m K ∗ levAts L lv ∗ (bigSep Finset.univ fun d : Dev nD => reached ER (barCell d) 0) ∗ rch c)
instance EnvA_persistent (c : Dev nD) : BI.Persistent (EnvA m K c) := by unfold EnvA; infer_instance
/-- After it, its two partners' cells too. -/
def Env (c : Dev nD) : sProp 𝕄 := iprop(EnvA m K c ∗ rch (q c) ∗ rch (r c))
instance Env_persistent (c : Dev nD) : BI.Persistent (Env m K c) := by unfold Env; infer_instance

theorem inv_at (d : Dev nD) : Inv m K ⊢ InvC m K d := bigSep_elim (Finset.mem_univ d)
theorem inv_bar (d : Dev nD) : Inv m K ⊢ cellInv ER (Rd m) (K (barCell d)) (barCell d) := by
  refine (inv_at m K d).trans ?_
  unfold InvC
  iintro ⟨H, -⟩
  iexact H
theorem ds_succ (s : DmaSem sig) (hs : s.val ≠ 0) : ∃ k : Fin 32, SemLoc.dma s = osem k :=
  ⟨⟨s.val - 1, by have h : s.val < 33 := s.isLt; omega⟩, congrArg SemLoc.dma (Fin.ext (by show s.val = s.val - 1 + 1; omega))⟩
theorem inv_own (d : Dev nD) (k : Fin 32) : Inv m K ⊢ cellInv ER (Rd m) (K ((d : Thread nD τ), osem k)) ((d : Thread nD τ), osem k) := by
  have h : (bigSep Finset.univ fun k : Fin 32 => cellInv ER (Rd m) (K ((d : Thread nD τ), osem k)) ((d : Thread nD τ), osem k) : sProp 𝕄)
      ⊢ cellInv ER (Rd m) (K ((d : Thread nD τ), osem k)) ((d : Thread nD τ), osem k) := bigSep_elim (Finset.mem_univ k)
  refine (inv_at m K d).trans ?_
  unfold InvC
  iintro ⟨-, H⟩
  iapply h $$ H
theorem inv_dma (d : Dev nD) (s : DmaSem sig) (hs : s.val ≠ 0) : Inv m K ⊢ cellInv ER (Rd m) (K (dCell d s)) (dCell d s) := by
  obtain ⟨k, hk⟩ := ds_succ s hs
  rw [show dCell d s = ((d : Thread nD τ), osem k) from congrArg (Prod.mk (d : Thread nD τ)) hk]
  exact inv_own m K d k
theorem bar_reached (d : Dev nD) : (bigSep Finset.univ fun d : Dev nD => reached ER (barCell d) 0 : sProp 𝕄) ⊢ reached ER (barCell d) 0 :=
  bigSep_elim (Finset.mem_univ d)
theorem rch_dma (d : Dev nD) (s : DmaSem sig) (hs : s.val ≠ 0) : rch (F := F) d ⊢ reached ER (dCell d s) 0 := by
  obtain ⟨k, hk⟩ := ds_succ s hs
  rw [show dCell d s = ((d : Thread nD τ), osem k) from congrArg (Prod.mk (d : Thread nD τ)) hk]
  exact bigSep_elim (Finset.mem_univ k)
theorem env_rch (c d : Dev nD) (hd : d = q c ∨ d = r c) : Env m K c ⊢ rch d := by
  unfold Env
  rcases hd with rfl | rfl
  · iintro ⟨-, H, -⟩; iexact H
  · iintro ⟨-, -, H⟩; iexact H

/-! ## What a device holds of the protocol -/

/-- It owes the debts of the list. -/
def ow (c : Dev nD) (l : List (Fin 16)) : sProp 𝕄 := iprop(∃ W, owes (c : Thread nD τ) (debt c l) W)
/-- It may wait on its semaphore `s`; it has waited on it. -/
def wt (c : Dev nD) (s : DmaSem sig) : sProp 𝕄 := iprop(cred (tallyAt (dCell c s) () (amt s)) ∗ atPos ER (dCell c s) 0 ∅ 0)
def dn (c : Dev nD) (s : DmaSem sig) : sProp 𝕄 := atPos ER (dCell c s) 1 ∅ 0
/-- It may copy onto its semaphore `s`; it may send with `sS` here and `sR` on `d`. -/
def lt (c : Dev nD) (s : DmaSem sig) : sProp 𝕄 := iprop(dutyTok ER (dCell c s) 0 false ∗ atPos ER (dCell c s) 0 ∅ 0)
def stk (c d : Dev nD) (sS sR : DmaSem sig) : sProp 𝕄 := iprop(lt c sS ∗ dutyTok ER (dCell d sR) 0 false)

variable (c : Dev nD) {α : Type} {Q : α → sProp (MT nD τ sig Unit (Elt F) ℕ UU ℕ)}

theorem signal_step (d' d : Dev nD) (hd' : d' = d) (u : Bool) (i : Fin 16) (l : List (Fin 16)) (ho : oCell c i = barCell d)
    (hg : (if u then rgt d else lft d) = c) {k : PUnit → Prog (TpuEff nD τ sig (Elt F) Λ₀ .tc) α} :
    iprop(EnvA m K c ∗ ow c (i :: l) ∗ dutyTok ER (barCell d) 0 u ∗ give c d)
      ⊢ iprop((ow c l -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc d') barS 1) k) Q) := by
  subst hd'
  have hp : (Rd (F := F) m).payload (barCell d') 0 u = give c d' := by
    show give (if u then rgt d' else lft d') d' = _
    rw [hg]
  unfold ow EnvA
  iintro ⟨⟨#HI, -, #Hr, -⟩, ⟨%W, HO⟩, Ht, Hg⟩ Hk
  iapply (Rounds.wp_signal 𝒱₀ ER (Rd m) (c : Thread nD τ) none (dst := (d' : Thread nD τ)) (sem := barS) (r := 0) (d := u) (κ := K (barCell d'))
      (by rw [duties_bar]; exact Finset.mem_univ _) rfl () (O₀ := debt c (i :: l)) (debt c l) (by
        have e : oSem i = .reg barS := congrArg Prod.snd ho
        rw [debt_cons, ho, e]; rfl)) $$ [HO Ht Hg]
  · isplitr; · iapply (inv_bar m K d'); iexact HI
    isplitl [HO]; · iexact HO
    isplitl [Ht]; · iexact Ht
    isplitl [Hg]
    · rw [hp]; iexact Hg
    · iapply (bar_reached d') $$ Hr
  iintro HO
  iapply Hk
  iexists W
  iexact HO

theorem barrier_step (l : List (Fin 16)) (hl : ∀ i ∈ l, 1 < lvS (oSem i)) {k : PUnit → Prog (TpuEff nD τ sig (Elt F) Λ₀ .tc) α} :
    iprop(EnvA m K c ∗ ow c l ∗ cred (tallyAt (barCell c) () 2) ∗ atPos ER (barCell c) 0 ∅ 0)
      ⊢ iprop((ow c l ∗ atPos ER (barCell c) 1 ∅ 0 ∗ give (lft c) c ∗ give (rgt c) c
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 2) k) Q) := by
  unfold ow EnvA
  iintro ⟨⟨#HI, #Hlev, -, -⟩, ⟨%W, HO⟩, Hc, Hat⟩ Hk
  iapply (Rounds.wp_wait_rest_token 𝒱₀ ER (Rd m) (c : Thread nD τ) none (κ := K (barCell c))
      (wpE_semWait_eq 𝒱₀ (c : Thread nD τ) none Set.univ) (Set.mem_univ _) () (O := debt c l) (W := W) (R := 0) (m := 0) (T := ∅)
      ((Nat.zero_add 2).trans (expect_bar m c).symm)) $$ [Hc HO Hat]
  · isplitr; · iapply (inv_bar m K c); iexact HI
    isplitl [Hc]; · iexact Hc
    isplitl [HO]; · iexact HO
    isplitr; · iapply (mayWait_debt c (.reg barS) l hl); iexact Hlev
    iexact Hat
  iintro ⟨HO, Hat, -, Hpay⟩
  ihave Hp := (Entails.of_eq (rest_bar m c)) $$ Hpay
  icases Hp with ⟨H1, H2⟩
  iapply Hk
  isplitl [HO]; · iexists _; iexact HO
  isplitl [Hat]; · iexact Hat
  isplitl [H1] <;> iassumption

theorem copy_step {sp sp' : Space} {s : Shape} {e : EltTy} {src : Memref sig .tc sp s e} {dst : Memref sig .tc sp' s e} (sm : DmaSem sig) (hs : sm.val ≠ 0)
    {hsrc : src.view.WordExact} {hdst : dst.view.WordExact} {hsem : DmaTarget.Typed (nD := nD) (τ := τ) (p := Proc.tc) sp (.dma sm) (.here dst)}
    (hN : dst.view.amount (.dma sm) = amt sm)
    {fs : Buf (Elt F) (src.view.loc (c : Thread nD τ))}
    (hpay : ∀ fd : Buf (Elt F) (dst.view.loc (c : Thread nD τ)),
      iprop(vpt dst c (dst.view.write (Elt F) fd (src.view.read (Elt F) fs) Finset.univ) ∗ vpt src c fs) ⊢ cellPay m c sm)
    {k : PUnit → Prog (TpuEff nD τ sig (Elt F) Λ₀ .tc) α} :
    iprop(EnvA m K c ∗ vpt src c fs ∗ (∃ fd, vpt dst c fd) ∗ lt c sm)
      ⊢ iprop((wt c sm -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  unfold EnvA lt wt
  iintro ⟨⟨#HI, -, -, #Hr⟩, Hs, ⟨%fd, Hd⟩, Ht, Hat⟩ Hk
  iapply (Rounds.wp_copy_pointsTo 𝒱₀ ER (Rd m) (c : Thread nD τ) none (src := src) (dst := dst) (sem := .dma sm) (q := fullShare)
      (fs := fs) (fd := fd) (r := 0) (d := false) (κ := K (dCell c sm))
      (by rw [duties_dma m c sm hs]; exact Finset.mem_singleton_self _) () (amt sm) hN rfl (hpay fd)) $$ [Hs Hd Ht]
  · isplitr; · iapply (inv_dma m K c sm hs); iexact HI
    isplitl [Hs]; · iexact Hs
    isplitl [Hd]; · iexact Hd
    isplitl [Ht]; · iexact Ht
    iapply (rch_dma c sm hs); iexact Hr
  iintro Hc
  iapply Hk
  isplitl [Hc] <;> iassumption

theorem send_step (d' d : Dev nD) (hd' : d' = d) (hd : d = q c ∨ d = r c)
    {sp sp' : Space} {s : Shape} {e : EltTy} {src : Memref sig .tc sp s e} {dst : Memref sig .tc sp' s e} (sS sR : DmaSem sig)
    (hS : sS.val ≠ 0) (hR : sR.val ≠ 0) {hsc : dst.view.ref.isScScratch = false}
    {hsrc : src.view.WordExact} {hdst : dst.view.WordExact} {hsem : DmaTarget.Typed (τ := τ) (p := Proc.tc) sp (.dma sR) (.remote (Dev.tc d') dst (.dma sS) hsc)}
    (i : Fin 16) (l : List (Fin 16)) (ho : oCell c i = dCell d sR)
    (hN : dst.view.amount (.dma sR) = amt sR) (hN' : amt sS = amt sR)
    {fs : Buf (Elt F) (src.view.loc (c : Thread nD τ))}
    (hp₁ : vpt src c fs ⊢ cellPay m c sS)
    (hp₂ : ∀ fd : Buf (Elt F) (dst.view.loc (d : Thread nD τ)),
      vpt dst d (dst.view.write (Elt F) fd (src.view.read (Elt F) fs) Finset.univ) ⊢ cellPay m d sR)
    {k : PUnit → Prog (TpuEff nD τ sig (Elt F) Λ₀ .tc) α} :
    iprop(Env m K c ∗ vpt src c fs ∗ (∃ fd, vpt dst d fd) ∗ ow c (i :: l) ∗ stk c d sS sR)
      ⊢ iprop((wt c sS ∗ ow c l -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc d') dst (.dma sS) hsc) (.dma sR) hsrc hdst hsem) k) Q) := by
  subst hd'
  iintro ⟨#HE, Hs, ⟨%fd, Hd⟩, Ho, Ht⟩ Hk
  ihave #HR := (env_rch m K c d' hd) $$ HE
  unfold Env EnvA ow stk lt wt
  icases HE with ⟨⟨#HI, -, -, #Hr⟩, -, -⟩
  icases Ho with ⟨%W, HO⟩
  icases Ht with ⟨⟨HtS, Hat⟩, HtR⟩
  iapply (Rounds.wp_send_pointsTo 𝒱₀ ER (Rd m) (c : Thread nD τ) none (c' := (d' : Thread nD τ)) (src := src) (dst := dst)
      (sS := .dma sS) (sem := .dma sR) (q := fullShare) (fs := fs) (κ₁ := K (dCell c sS)) (κ₂ := K (dCell d' sR))
      (r₁ := 0) (r₂ := 0) (d₁ := false) (d₂ := false) (fd := fd)
      (by rw [duties_dma m c sS hS]; exact Finset.mem_singleton_self _) (by rw [duties_dma m d' sR hR]; exact Finset.mem_singleton_self _)
      () () (amt sR) hN hN' rfl (O₀ := debt c (i :: l)) (debt c l) (by
        have e : oSem i = .dma sR := congrArg Prod.snd ho
        rw [debt_cons, ho, e]; rfl) (W := W) hp₁ (hp₂ fd)) $$ [Hs Hd HO HtS HtR]
  · isplitr; · iapply (inv_dma m K c sS hS); iexact HI
    isplitr; · iapply (inv_dma m K d' sR hR); iexact HI
    isplitl [Hs]; · iexact Hs
    isplitl [Hd]; · iexact Hd
    isplitl [HO]; · iexact HO
    isplitl [HtS]; · iexact HtS
    isplitr; · iapply (rch_dma c sS hS); iexact Hr
    isplitl [HtR]; · iexact HtR
    iapply (rch_dma d' sR hR); iexact HR
  iintro ⟨Hc, HO⟩
  iapply Hk
  rw [hN']
  isplitl [Hc Hat]
  · isplitl [Hc] <;> iassumption
  iexists W
  iexact HO

theorem wait_step {sp sp' : Space} {s s' : Shape} {e e' : EltTy} {src : Memref sig .tc sp' s' e'} {dst : Memref sig .tc sp s e} (sm : DmaSem sig) (hs : sm.val ≠ 0)
    {hsrc : src.view.WordExact} {hdst : dst.view.WordExact} (hN : dst.view.dmaCredit = amt sm)
    (l : List (Fin 16)) (hl : ∀ i ∈ l, lvS (.dma sm) < lvS (oSem i))
    {k : PUnit → Prog (TpuEff nD τ sig (Elt F) Λ₀ .tc) α} :
    iprop(EnvA m K c ∗ ow c l ∗ wt c sm)
      ⊢ iprop((ow c l ∗ dn c sm ∗ cellPay m c sm -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm src dst hsrc hdst) k) Q) := by
  unfold EnvA ow wt dn
  iintro ⟨⟨#HI, #Hlev, -, -⟩, ⟨%W, HO⟩, Hc, Hat⟩ Hk
  iapply (Rounds.wp_wait_rest_token 𝒱₀ ER (Rd m) (c : Thread nD τ) none (κ := K (dCell c sm))
      (wpE_waitDma2_eq 𝒱₀ (c : Thread nD τ) none Set.univ) (Set.mem_univ _) () (O := debt c l) (W := W) (R := 0) (m := 0) (T := ∅)
      ((Nat.zero_add _).trans (hN.trans (expect_dma m c sm hs).symm))) $$ [Hc HO Hat]
  · isplitr; · iapply (inv_dma m K c sm hs); iexact HI
    isplitl [Hc]; · rw [hN]; iexact Hc
    isplitl [HO]; · iexact HO
    isplitr; · iapply (mayWait_debt c (.dma sm) l hl); iexact Hlev
    iexact Hat
  iintro ⟨HO, Hat, -, Hpay⟩
  ihave Hp := (Entails.of_eq (rest_dma m c sm hs)) $$ Hpay
  iapply Hk
  isplitl [HO]; · iexists _; iexact HO
  isplitl [Hat] <;> iassumption

theorem load_step {cs : CoreSpace} {s : Shape} {e : EltTy} {M : Memref sig .tc cs s e} {R : Rect s} {hl : M.view.LoadsAt R}
    {S : Finset (Idx (M.view.loc (c : Thread nD τ)))} {f : Buf (Elt F) (M.view.loc (c : Thread nD τ))} {v : R.shape.Idx → Elt F e}
    (hS : (M.access R).set ⊆ S) (hv : (M.access R).read (Elt F) f = v)
    {k : (R.shape.Idx → Elt F e) → Prog (TpuEff nD τ sig (Elt F) Λ₀ .tc) α} :
    (M.view.loc (c : Thread nD τ) ↦[S]{fullShare} f : sProp 𝕄)
      ⊢ iprop(((M.view.loc (c : Thread nD τ) ↦[S]{fullShare} f) -∗ wp frame (wpE (defs₀ (F := F)) 𝒱₀ (c : Thread nD τ) none) Set.univ (k v) Q)
        -∗ wp frame (wpE (defs₀ (F := F)) 𝒱₀ (c : Thread nD τ) none) Set.univ (.op (.load M R hl) k) Q) := by
  subst hv
  have h := wp_load_rect (defs := defs₀ (F := F)) (Γ := ∅) (Q := Q) 𝒱₀ (c : Thread nD τ) none Set.univ (m := M) (r := R) (hl := hl) (k := k) (q := fullShare) (f := f) hS
  exact h

theorem store_step {cs : CoreSpace} {s : Shape} {e : EltTy} {M : Memref sig .tc cs s e} {R : Rect s} {w : R.shape.Idx → Elt F e}
    {hx : (M.access R).Stores Finset.univ} {hm : (Finset.univ : Finset R.shape.Idx) = Finset.univ ∨ ∀ a, R.stride a = 1}
    {S : Finset (Idx (M.view.loc (c : Thread nD τ)))} {f f' : Buf (Elt F) (M.view.loc (c : Thread nD τ))}
    (hS : (M.access R).set ⊆ S) (hf : ∀ i ∈ S, (M.access R).write (Elt F) f w Finset.univ i = f' i)
    {k : PUnit → Prog (TpuEff nD τ sig (Elt F) Λ₀ .tc) α} :
    (M.view.loc (c : Thread nD τ) ↦[S]{fullShare} f : sProp 𝕄)
      ⊢ iprop(((M.view.loc (c : Thread nD τ) ↦[S]{fullShare} f') -∗ wp frame (wpE (defs₀ (F := F)) 𝒱₀ (c : Thread nD τ) none) Set.univ (k ⟨⟩) Q)
        -∗ wp frame (wpE (defs₀ (F := F)) 𝒱₀ (c : Thread nD τ) none) Set.univ (.op (.store M R w Finset.univ hx hm) k) Q) := by
  have e : (M.view.loc (c : Thread nD τ) ↦[S]{fullShare} ((M.access R).write (Elt F) f w Finset.univ) : sProp 𝕄) = (M.view.loc (c : Thread nD τ) ↦[S]{fullShare} f') :=
    pointsTo_congr hf
  rw [← e]
  have h := wp_store (defs := defs₀ (F := F)) (Γ := ∅) (Q := Q) 𝒱₀ (c : Thread nD τ) none Set.univ (m := M) (r := R) (w := w) (Mk := Finset.univ) (hx := hx) (hm := hm) (k := k) (f := f) hS
  exact h

end Cert.KernelIdeal.Mesh
-- ==== Proof.Geom.lean ====
/- Which elements the regions have, and how a buffer divides into the regions that the copies and the vector operations use. -/
module

public import proofs.«01_k».proof.Proof.Steps

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Elements of a memref by its own indices -/

/-- Holding, on device `c`, the elements of `M` with index in `S`, in full, at the contents `f` of its buffer. -/
abbrev on {sp : Space} {s : Shape} {e : EltTy} (M : Memref sig .tc sp s e) (c : Dev nD) (S : Finset s.Idx) (f : Buf (Elt F) (M.view.loc (c : Thread nD τ))) : sProp 𝕄 :=
  M.view.loc (c : Thread nD τ) ↦[S.map M.view.emb]{fullShare} f

section On

variable {sp : Space} {s s' : Shape} {e : EltTy} (M : Memref sig .tc sp s e) (c : Dev nD) {S T : Finset s.Idx}

theorem acc_set (R : Rect s) : (M.access R).set = R.set.map M.view.emb := View.set_slice M.view R
theorem acc_sub (R : Rect s) (h : R.set ⊆ S) : (M.access R).set ⊆ S.map M.view.emb := by
  rw [acc_set]; exact Finset.map_subset_map.mpr h

theorem vpt_slice (R : Rect s) (h) (f : Buf (Elt F) (M.view.loc (c : Thread nD τ))) : vpt (M.slice R h) c f = on M c R.set f := by
  show (_ ↦[(M.view.slice R).set]{fullShare} f) = _
  rw [View.set_slice]
theorem vpt_squeeze (R : Rect s) (h) (hq : R.shape.Squeezes s') (f : Buf (Elt F) (M.view.loc (c : Thread nD τ))) :
    vpt ((M.slice R h).squeeze s' hq) c f = on M c R.set f :=
  congrArg (fun S : Finset (Idx (M.view.loc (c : Thread nD τ))) => (M.view.loc (c : Thread nD τ) ↦[S]{fullShare} f : sProp 𝕄))
    ((Memref.set_view_squeeze (M.slice R h) hq).trans (View.set_slice M.view R))
theorem vpt_all (f : Buf (Elt F) (M.view.loc (c : Thread nD τ))) : vpt M c f = on M c Finset.univ f := rfl

theorem on_union (h : Disjoint S T) (f : Buf (Elt F) (M.view.loc (c : Thread nD τ))) :
    on M c (S ∪ T) f ⊣⊢ iprop(on M c S f ∗ on M c T f) := by
  unfold on
  rw [Finset.map_union]
  exact pointsTo_union ((Finset.disjoint_map _).mpr h)

/-- Two parts at whatever contents make their union, at some. -/
theorem on_join (h : Disjoint S T) : iprop((∃ f, on M c S f) ∗ (∃ f, on M c T f)) ⊢ (iprop(∃ f, on (F := F) M c (S ∪ T) f) : sProp 𝕄) := by
  iintro ⟨⟨%f, H1⟩, ⟨%g, H2⟩⟩
  iexists _
  unfold on
  rw [Finset.map_union]
  iapply (pointsTo_join ((Finset.disjoint_map M.view.emb).mpr h))
  isplitl [H1] <;> iassumption

theorem on_split (h : Disjoint S T) : (iprop(∃ f, on (F := F) M c (S ∪ T) f) : sProp 𝕄) ⊢ iprop((∃ f, on M c S f) ∗ (∃ f, on M c T f)) := by
  iintro ⟨%f, H⟩
  ihave H := (on_union M c h f).1 $$ H
  icases H with ⟨H1, H2⟩
  isplitl [H1]
  · iexists f; iexact H1
  · iexists f; iexact H2

end On

/-! ## The rectangles -/

theorem d_disj : Disjoint D0.set D1.set := Rect.unit_disjoint (s := S2x512x256) 1 (.inl (by decide))
theorem dd_disj : Disjoint DD.set D2.set := Rect.unit_disjoint (s := S2x512x256) 0 (.inl (by decide))
theorem q01 : Disjoint Q0.set Q1.set := Rect.unit_disjoint (s := S512x256) 0 (.inl (by decide))
theorem q23 : Disjoint Q2.set Q3.set := Rect.unit_disjoint (s := S512x256) 0 (.inl (by decide))
theorem h01 : Disjoint H0.set H1.set := Rect.unit_disjoint (s := S512x256) 0 (.inl (by decide))

theorem dd_eq : DD.set = D0.set ∪ D1.set := by
  ext i
  simp only [Finset.mem_union, Rect.mem_set_unit, Fin.forall_fin_succ, Fin.forall_fin_zero]
  simp
  omega
theorem d_all : (Finset.univ : Finset S2x512x256.Idx) = (D0.set ∪ D1.set) ∪ D2.set := by
  symm; rw [Finset.eq_univ_iff_forall]; intro i
  have h0 : (i 0).val < 2 := (i 0).isLt
  have h1 : (i 1).val < 512 := (i 1).isLt
  have h2 : (i 2).val < 256 := (i 2).isLt
  simp only [Finset.mem_union, Rect.mem_set_unit, Fin.forall_fin_succ, Fin.forall_fin_zero]
  simp
  omega
theorem h0_eq : H0.set = Q0.set ∪ Q1.set := by
  ext i
  simp only [Finset.mem_union, Rect.mem_set_unit, Fin.forall_fin_succ, Fin.forall_fin_zero]
  simp
  omega
theorem h1_eq : H1.set = Q2.set ∪ Q3.set := by
  ext i
  simp only [Finset.mem_union, Rect.mem_set_unit, Fin.forall_fin_succ, Fin.forall_fin_zero]
  simp
  omega
theorem h_all : (Finset.univ : Finset S512x256.Idx) = H0.set ∪ H1.set := by
  symm; rw [Finset.eq_univ_iff_forall]; intro i
  have h0 : (i 0).val < 512 := (i 0).isLt
  have h1 : (i 1).val < 256 := (i 1).isLt
  simp only [Finset.mem_union, Rect.mem_set_unit, Fin.forall_fin_succ, Fin.forall_fin_zero]
  simp
  omega

theorem d0_dd : D0.set ⊆ DD.set := by rw [dd_eq]; exact Finset.subset_union_left
theorem e_dd (k : Nat) (hk : k + 128 ≤ 512) (inb) : (Rect.unit (s := S2x512x256) ![0, k, 0] ![1, 128, 256] inb).set ⊆ DD.set := by
  intro i hi
  have h := Rect.mem_set_unit.mp hi
  have h0 := h 0
  have h1 := h 1
  have h2 := h 2
  refine Rect.mem_set_unit.mpr fun a => ?_
  match a with
  | 0 => exact h0
  | 1 => exact ⟨Nat.zero_le _, by have := h1.2; show _ < 0 + 512; change _ < k + 128 at this; omega⟩
  | 2 => exact h2

/-! ## The nine slices of a device's partial sums -/

def xRect (c : Dev nD) : Fin 9 → Rect S2048x512
  | 0 => Rect.unit (s := S2048x512) (k0_off3 c) S512x512.size (k0_off3_inb c)
  | 1 => Rect.unit (s := S2048x512) (k0_off1 c) S512x256.size (k0_off1_inb c)
  | 2 => Rect.unit (s := S2048x512) (k0_off2 c) S512x256.size (k0_off2_inb c)
  | 3 => Rect.unit (s := S2048x512) (k0_off4 c 0#32) S256x256.size (k0_off4_inb c 0)
  | 4 => Rect.unit (s := S2048x512) (k0_off4 c 256#32) S256x256.size (k0_off4_inb c 1)
  | 5 => Rect.unit (s := S2048x512) (k0_off6 c) S512x256.size (k0_off6_inb c)
  | 6 => Rect.unit (s := S2048x512) (k0_off5 c 0#32) S256x256.size (k0_off5_inb c 0)
  | 7 => Rect.unit (s := S2048x512) (k0_off5 c 256#32) S256x256.size (k0_off5_inb c 1)
  | 8 => Rect.unit (s := S2048x512) (k0_off7 c) S512x256.size (k0_off7_inb c)

/-- Where each slice begins, and its extent. -/
def xOff (c : Dev nD) : Fin 9 → Fin 2 → Nat :=
  ![k0_off3 c, k0_off1 c, k0_off2 c, k0_off4 c 0#32, k0_off4 c 256#32, k0_off6 c, k0_off5 c 0#32, k0_off5 c 256#32, k0_off7 c]
def xExt : Fin 9 → Fin 2 → Nat :=
  ![![512, 512], ![512, 256], ![512, 256], ![256, 256], ![256, 256], ![512, 256], ![256, 256], ![256, 256], ![512, 256]]

theorem mem_x (c : Dev nD) (k : Fin 9) (i : S2048x512.Idx) :
    i ∈ (xRect c k).set ↔ ∀ a, xOff c k a ≤ (i a).val ∧ (i a).val < xOff c k a + xExt k a := by
  match k with
  | 0 => exact Rect.mem_set_unit (inb := k0_off3_inb c)
  | 1 => exact Rect.mem_set_unit (inb := k0_off1_inb c)
  | 2 => exact Rect.mem_set_unit (inb := k0_off2_inb c)
  | 3 => exact Rect.mem_set_unit (inb := k0_off4_inb c 0)
  | 4 => exact Rect.mem_set_unit (inb := k0_off4_inb c 1)
  | 5 => exact Rect.mem_set_unit (inb := k0_off6_inb c)
  | 6 => exact Rect.mem_set_unit (inb := k0_off5_inb c 0)
  | 7 => exact Rect.mem_set_unit (inb := k0_off5_inb c 1)
  | 8 => exact Rect.mem_set_unit (inb := k0_off7_inb c)

theorem x_sep : ∀ (c : Dev nD) (k l : Fin 9), k ≠ l → ∃ a : Fin 2, xOff c k a + xExt k a ≤ xOff c l a ∨ xOff c l a + xExt l a ≤ xOff c k a := by
  decide +kernel

theorem x_disj (c : Dev nD) (k l : Fin 9) (h : k ≠ l) : Disjoint (xRect c k).set (xRect c l).set := by
  rw [Finset.disjoint_left]
  intro i hk hl
  obtain ⟨a, ha⟩ := x_sep c k l h
  have h1 := (mem_x c k i).mp hk a
  have h2 := (mem_x c l i).mp hl a
  omega

/-- What no slice covers. -/
def xRest (c : Dev nD) : Finset S2048x512.Idx := Finset.univ \ Finset.univ.biUnion fun k => (xRect c k).set

/-- The whole of the partial sums is the nine slices and that rest. -/
theorem x_parts (c : Dev nD) (f : Buf (Elt F) ((c : Thread nD τ).loc main_v1)) :
    on a0M c Finset.univ f ⊣⊢ iprop((bigSep Finset.univ fun k => on a0M c (xRect c k).set f) ∗ on a0M c (xRest c) f) := by
  have h := pointsTo_biUnion (nD := nD) (τ := τ) (sig := sig) (Ix := Unit) (Val := Elt F) (Name := ℕ) (U := UU) (Lvl := ℕ) (ℓ := a0M.view.loc (c : Thread nD τ)) (q := fullShare) (f := f)
    (Finset.univ : Finset (Fin 9)) (fun k => (xRect c k).set.map a0M.view.emb) (fun k _ l _ hkl => (Finset.disjoint_map _).mpr (x_disj c k l hkl))
  rw [show (bigSep Finset.univ fun k => on a0M c (xRect c k).set f : sProp 𝕄) = on a0M c (Finset.univ.biUnion fun k => (xRect c k).set) f by
    rw [← h]; unfold on
    refine congrArg (fun S : Finset (Idx (a0M.view.loc (c : Thread nD τ))) => (a0M.view.loc (c : Thread nD τ) ↦[S]{fullShare} f : sProp 𝕄)) ?_
    ext i
    simp only [Finset.mem_biUnion, Finset.mem_map, Finset.mem_univ, true_and]
    exact ⟨fun ⟨k, j, hj, e⟩ => ⟨j, ⟨k, hj⟩, e⟩, fun ⟨j, ⟨k, hj⟩, e⟩ => ⟨k, j, hj, e⟩⟩]
  have e : (Finset.univ : Finset S2048x512.Idx) = (Finset.univ.biUnion fun k => (xRect c k).set) ∪ xRest c := by
    unfold xRest; rw [Finset.union_sdiff_of_subset (Finset.subset_univ _)]
  conv => lhs; rw [e]
  exact on_union a0M c (by unfold xRest; exact Finset.disjoint_sdiff) f

/-- Each of them, held as the copies name it. -/
theorem vx0 (c : Dev nD) (f : Buf (Elt F) ((c : Thread nD τ).loc main_v1)) : on a0M c (xRect c 0).set f = vpt (xOWN c) c f := (vpt_slice a0M c (xRect c 0) (fun _ => rfl) f).symm
theorem vx1 (c : Dev nD) (f : Buf (Elt F) ((c : Thread nD τ).loc main_v1)) : on a0M c (xRect c 1).set f = vpt (xFA c) c f := (vpt_slice a0M c (xRect c 1) (fun _ => rfl) f).symm
theorem vx2 (c : Dev nD) (f : Buf (Elt F) ((c : Thread nD τ).loc main_v1)) : on a0M c (xRect c 2).set f = vpt (xFB c) c f := (vpt_slice a0M c (xRect c 2) (fun _ => rfl) f).symm
theorem vx3 (c : Dev nD) (f : Buf (Elt F) ((c : Thread nD τ).loc main_v1)) : on a0M c (xRect c 3).set f = vpt (xA0 c) c f := (vpt_slice a0M c (xRect c 3) (fun _ => rfl) f).symm
theorem vx4 (c : Dev nD) (f : Buf (Elt F) ((c : Thread nD τ).loc main_v1)) : on a0M c (xRect c 4).set f = vpt (xA1 c) c f := (vpt_slice a0M c (xRect c 4) (fun _ => rfl) f).symm
theorem vx5 (c : Dev nD) (f : Buf (Elt F) ((c : Thread nD τ).loc main_v1)) : on a0M c (xRect c 5).set f = vpt (xA2 c) c f := (vpt_slice a0M c (xRect c 5) (fun _ => rfl) f).symm
theorem vx6 (c : Dev nD) (f : Buf (Elt F) ((c : Thread nD τ).loc main_v1)) : on a0M c (xRect c 6).set f = vpt (xB0 c) c f := (vpt_slice a0M c (xRect c 6) (fun _ => rfl) f).symm
theorem vx7 (c : Dev nD) (f : Buf (Elt F) ((c : Thread nD τ).loc main_v1)) : on a0M c (xRect c 7).set f = vpt (xB1 c) c f := (vpt_slice a0M c (xRect c 7) (fun _ => rfl) f).symm
theorem vx8 (c : Dev nD) (f : Buf (Elt F) ((c : Thread nD τ).loc main_v1)) : on a0M c (xRect c 8).set f = vpt (xB2 c) c f := (vpt_slice a0M c (xRect c 8) (fun _ => rfl) f).symm

theorem x_list (c : Dev nD) (f : Buf (Elt F) ((c : Thread nD τ).loc main_v1)) :
    (bigSep Finset.univ fun k => on a0M c (xRect c k).set f : sProp 𝕄)
      = iprop(vpt (xOWN c) c f ∗ vpt (xFA c) c f ∗ vpt (xFB c) c f ∗ vpt (xA0 c) c f ∗ vpt (xA1 c) c f ∗ vpt (xA2 c) c f
          ∗ vpt (xB0 c) c f ∗ vpt (xB1 c) c f ∗ vpt (xB2 c) c f) := by
  refine (bigSep_univ_eq_bigSepL [0, 1, 2, 3, 4, 5, 6, 7, 8] (by decide) (by decide) _).trans ?_
  rw [← vx0, ← vx1, ← vx2, ← vx3, ← vx4, ← vx5, ← vx6, ← vx7, ← vx8]
  rfl

end Cert.KernelIdeal.Mesh
-- ==== Proof.Land.lean ====
/- What the landings hold: each payload of the schedule out of the copy that makes it, and what a vector load reads of it. -/
module

public import proofs.«01_k».proof.Proof.Geom

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Writes -/

section Writes

variable {κ : Kind} {sp : Space} {s : Shape} {e : EltTy} (v : View sig κ sp s e)

/-- On its own elements a write through a view does not depend on what was there. -/
theorem write_agree (f f' : v.ty.Contents (Elt F)) (w : s.Idx → Elt F e) {i : v.ty.Idx} (h : i ∈ v.set ∨ f i = f' i) :
    v.write (Elt F) f w Finset.univ i = v.write (Elt F) f' w Finset.univ i := by
  by_cases hi : i ∈ v.set
  · obtain ⟨x, -, rfl⟩ := Finset.mem_map.mp hi
    rw [View.write_emb_of_mem f w (Finset.mem_univ x), View.write_emb_of_mem f' w (Finset.mem_univ x)]
  · rw [View.write_of_not_mem f w Finset.univ hi, View.write_of_not_mem f' w Finset.univ hi]
    exact h.resolve_left hi

end Writes

/-- What a vector load reads of a landed tile. -/
theorem rd_w0 (M : Memref sig .tc .vmem S2x512x256 .f32) (f : M.view.ty.Contents (Elt F)) (w : Vec F S256x256 .f32) :
    (M.access D0).read (Elt F) ((w0 M).view.write (Elt F) f w Finset.univ) = V1 w :=
  (congrArg ((M.access D0).read (Elt F)) (View.write_reshape_univ (v := M.access D0) _ f w)).trans (View.read_write_univ _ _)
theorem rd_w1 (M : Memref sig .tc .vmem S2x512x256 .f32) (f : M.view.ty.Contents (Elt F)) (w : Vec F S256x256 .f32) :
    (M.access D1).read (Elt F) ((w1 M).view.write (Elt F) f w Finset.univ) = V1 w :=
  (congrArg ((M.access D1).read (Elt F)) (View.write_reshape_univ (v := M.access D1) _ f w)).trans (View.read_write_univ _ _)
theorem rd_w2 (M : Memref sig .tc .vmem S2x512x256 .f32) (f : M.view.ty.Contents (Elt F)) (w : Vec F S512x256 .f32) :
    (M.access D2).read (Elt F) ((w2 M).view.write (Elt F) f w Finset.univ) = V3 w :=
  (congrArg ((M.access D2).read (Elt F)) (View.write_reshape_univ (v := M.access D2) _ f w)).trans (View.read_write_univ _ _)

/-- A copy of a region of one buffer onto the same region of another of its shape leaves the first buffer's contents there. -/
theorem land57 (R : Rect S512x256) (f : Vec F S512x256 .f32) (g : Vec F S512x256 .f32) : ∀ i ∈ (a7M.access R).set,
    (a7M.access R).write (Elt F) f ((a5M.access R).read (Elt F) g) Finset.univ i = g i := by
  intro i hi
  obtain ⟨x, -, rfl⟩ := Finset.mem_map.mp hi
  exact View.write_emb_of_mem (v := a7M.access R) f _ (Finset.mem_univ x)
theorem land68 (R : Rect S512x256) (f : Vec F S512x256 .f32) (g : Vec F S512x256 .f32) : ∀ i ∈ (a8M.access R).set,
    (a8M.access R).write (Elt F) f ((a6M.access R).read (Elt F) g) Finset.univ i = g i := by
  intro i hi
  obtain ⟨x, -, rfl⟩ := Finset.mem_map.mp hi
  exact View.write_emb_of_mem (v := a8M.access R) f _ (Finset.mem_univ x)

/-! ## What a store leaves on its own region -/

section Stores

variable (c : Dev nD)

theorem sa2_h0 (f : Vec F S512x256 .f32) : ∀ i ∈ H0.set.map a5M.view.emb,
    (a5M.access H0).write (Elt F) f (k0_pay1 (V1 (XA0 m (q c))) ((a10M.access H0).read (Elt F) (FA m c))) Finset.univ i = SA2 m c i := by
  intro i hi
  have hi' : i ∈ (a5M.access H0).set := by rw [acc_set]; exact hi
  have hn : i ∉ (a5M.access H1).set := by
    rw [acc_set]; exact Finset.disjoint_left.mp ((Finset.disjoint_map a5M.view.emb).mpr h01) hi
  unfold SA2
  rw [View.write_of_not_mem _ _ Finset.univ hn]
  exact write_agree (a5M.access H0) _ _ _ (.inl hi')
theorem sa2_h1 (f : Vec F S512x256 .f32) : ∀ i ∈ H1.set.map a5M.view.emb,
    (a5M.access H1).write (Elt F) f (k0_pay4 (V1 (XA1 m (q c))) ((a10M.access H1).read (Elt F) (FA m c))) Finset.univ i = SA2 m c i := by
  intro i hi
  exact write_agree (a5M.access H1) _ _ _ (.inl (by rw [acc_set]; exact hi))
theorem sb2_h0 (f : Vec F S512x256 .f32) : ∀ i ∈ H0.set.map a6M.view.emb,
    (a6M.access H0).write (Elt F) f (k0_pay3 (k0_pay2 (V1 (XB0 m (r c)))) ((a11M.access H0).read (Elt F) (FB m c))) Finset.univ i = SB2 m c i := by
  intro i hi
  have hi' : i ∈ (a6M.access H0).set := by rw [acc_set]; exact hi
  have hn : i ∉ (a6M.access H1).set := by
    rw [acc_set]; exact Finset.disjoint_left.mp ((Finset.disjoint_map a6M.view.emb).mpr h01) hi
  unfold SB2
  rw [View.write_of_not_mem _ _ Finset.univ hn]
  exact write_agree (a6M.access H0) _ _ _ (.inl hi')
theorem sb2_h1 (f : Vec F S512x256 .f32) : ∀ i ∈ H1.set.map a6M.view.emb,
    (a6M.access H1).write (Elt F) f (k0_pay5 (V1 (XB1 m (r c))) ((a11M.access H1).read (Elt F) (FB m c))) Finset.univ i = SB2 m c i := by
  intro i hi
  exact write_agree (a6M.access H1) _ _ _ (.inl (by rw [acc_set]; exact hi))
theorem ya_dd (f : Vec F S2x512x256 .f32) : ∀ i ∈ DD.set.map a3M.view.emb,
    (a3M.access DD).write (Elt F) f (k0_pay6 (V3 (XA2 m (q c))) ((a9M.access C0).read (Elt F) (OWN m c))) Finset.univ i = YA m c i := by
  intro i hi
  exact write_agree (a3M.access DD) _ _ _ (.inl (by rw [acc_set]; exact hi))
theorem yb_dd (f : Vec F S2x512x256 .f32) : ∀ i ∈ DD.set.map a4M.view.emb,
    (a4M.access DD).write (Elt F) f (k0_pay8 (k0_pay7 (V3 (XB2 m (r c))) ((a9M.access C1).read (Elt F) (OWN m c)))) Finset.univ i = YB m c i := by
  intro i hi
  exact write_agree (a4M.access DD) _ _ _ (.inl (by rw [acc_set]; exact hi))

end Stores

/-! ## What each copy hands over is what the schedule says -/

section Pays

variable (c : Dev nD)

/-- A local copy of the partial sums onto a whole buffer. -/
theorem pay29 (fd : Buf (Elt F) (a9M.view.loc (c : Thread nD τ))) :
    iprop(vpt a9M c (a9M.view.write (Elt F) fd ((xOWN c).view.read (Elt F) (X m c)) Finset.univ) ∗ vpt (xOWN c) c (X m c)) ⊢ cellPay m c (ds 29) := by
  rw [show a9M.view.write (Elt F) fd ((xOWN c).view.read (Elt F) (X m c)) Finset.univ = OWN m c from View.write_whole_univ _ _ _]
  exact Entails.of_eq rfl
theorem pay30 (fd : Buf (Elt F) (a10M.view.loc (c : Thread nD τ))) :
    iprop(vpt a10M c (a10M.view.write (Elt F) fd ((xFA c).view.read (Elt F) (X m c)) Finset.univ) ∗ vpt (xFA c) c (X m c)) ⊢ cellPay m c (ds 30) := by
  rw [show a10M.view.write (Elt F) fd ((xFA c).view.read (Elt F) (X m c)) Finset.univ = FA m c from View.write_whole_univ _ _ _]
  exact Entails.of_eq rfl
theorem pay31 (fd : Buf (Elt F) (a11M.view.loc (c : Thread nD τ))) :
    iprop(vpt a11M c (a11M.view.write (Elt F) fd ((xFB c).view.read (Elt F) (X m c)) Finset.univ) ∗ vpt (xFB c) c (X m c)) ⊢ cellPay m c (ds 31) := by
  rw [show a11M.view.write (Elt F) fd ((xFB c).view.read (Elt F) (X m c)) Finset.univ = FB m c from View.write_whole_univ _ _ _]
  exact Entails.of_eq rfl
theorem pay32 (fd : Buf (Elt F) (a12M.view.loc (c : Thread nD τ))) :
    iprop(vpt a12M c (a12M.view.write (Elt F) fd (a1M.view.read (Elt F) (G m c)) Finset.univ) ∗ vpt a1M c (G m c)) ⊢ cellPay m c (ds 32) := by
  rw [show a12M.view.write (Elt F) fd (a1M.view.read (Elt F) (G m c)) Finset.univ = G m c from View.write_whole_univ _ _ _]
  exact Entails.of_eq rfl

/-- A second-phase send of a quarter. -/
theorem pay11 (fd : Buf (Elt F) (a7M.view.loc (r c : Thread nD τ))) :
    vpt (z0 a7M) (r c) ((z0 a7M).view.write (Elt F) fd ((z0 a5M).view.read (Elt F) (SA2 m c)) Finset.univ) ⊢ cellPay m (r c) (ds 11) := by
  show _ ⊢ vpt (z0 a7M) (r c) (SA2 m (r (r c)))
  rw [r_r]; exact Entails.of_eq (pointsTo_congr (land57 Q0 fd (SA2 m c)))
theorem pay12 (fd : Buf (Elt F) (a7M.view.loc (r c : Thread nD τ))) :
    vpt (z1 a7M) (r c) ((z1 a7M).view.write (Elt F) fd ((z1 a5M).view.read (Elt F) (SA2 m c)) Finset.univ) ⊢ cellPay m (r c) (ds 12) := by
  show _ ⊢ vpt (z1 a7M) (r c) (SA2 m (r (r c)))
  rw [r_r]; exact Entails.of_eq (pointsTo_congr (land57 Q1 fd (SA2 m c)))
theorem pay13 (fd : Buf (Elt F) (a7M.view.loc (r c : Thread nD τ))) :
    vpt (z2 a7M) (r c) ((z2 a7M).view.write (Elt F) fd ((z2 a5M).view.read (Elt F) (SA2 m c)) Finset.univ) ⊢ cellPay m (r c) (ds 13) := by
  show _ ⊢ vpt (z2 a7M) (r c) (SA2 m (r (r c)))
  rw [r_r]; exact Entails.of_eq (pointsTo_congr (land57 Q2 fd (SA2 m c)))
theorem pay14 (fd : Buf (Elt F) (a7M.view.loc (r c : Thread nD τ))) :
    vpt (z3 a7M) (r c) ((z3 a7M).view.write (Elt F) fd ((z3 a5M).view.read (Elt F) (SA2 m c)) Finset.univ) ⊢ cellPay m (r c) (ds 14) := by
  show _ ⊢ vpt (z3 a7M) (r c) (SA2 m (r (r c)))
  rw [r_r]; exact Entails.of_eq (pointsTo_congr (land57 Q3 fd (SA2 m c)))
theorem pay25 (fd : Buf (Elt F) (a8M.view.loc (q c : Thread nD τ))) :
    vpt (z0 a8M) (q c) ((z0 a8M).view.write (Elt F) fd ((z0 a6M).view.read (Elt F) (SB2 m c)) Finset.univ) ⊢ cellPay m (q c) (ds 25) := by
  show _ ⊢ vpt (z0 a8M) (q c) (SB2 m (q (q c)))
  rw [q_q]; exact Entails.of_eq (pointsTo_congr (land68 Q0 fd (SB2 m c)))
theorem pay26 (fd : Buf (Elt F) (a8M.view.loc (q c : Thread nD τ))) :
    vpt (z1 a8M) (q c) ((z1 a8M).view.write (Elt F) fd ((z1 a6M).view.read (Elt F) (SB2 m c)) Finset.univ) ⊢ cellPay m (q c) (ds 26) := by
  show _ ⊢ vpt (z1 a8M) (q c) (SB2 m (q (q c)))
  rw [q_q]; exact Entails.of_eq (pointsTo_congr (land68 Q1 fd (SB2 m c)))
theorem pay27 (fd : Buf (Elt F) (a8M.view.loc (q c : Thread nD τ))) :
    vpt (z2 a8M) (q c) ((z2 a8M).view.write (Elt F) fd ((z2 a6M).view.read (Elt F) (SB2 m c)) Finset.univ) ⊢ cellPay m (q c) (ds 27) := by
  show _ ⊢ vpt (z2 a8M) (q c) (SB2 m (q (q c)))
  rw [q_q]; exact Entails.of_eq (pointsTo_congr (land68 Q2 fd (SB2 m c)))
theorem pay28 (fd : Buf (Elt F) (a8M.view.loc (q c : Thread nD τ))) :
    vpt (z3 a8M) (q c) ((z3 a8M).view.write (Elt F) fd ((z3 a6M).view.read (Elt F) (SB2 m c)) Finset.univ) ⊢ cellPay m (q c) (ds 28) := by
  show _ ⊢ vpt (z3 a8M) (q c) (SB2 m (q (q c)))
  rw [q_q]; exact Entails.of_eq (pointsTo_congr (land68 Q3 fd (SB2 m c)))

/-- A first-phase send, landing in the partner's buffer. -/
theorem pay8 (fd : Buf (Elt F) (a3M.view.loc (q c : Thread nD τ))) :
    vpt (w0 a3M) (q c) ((w0 a3M).view.write (Elt F) fd ((xA0 c).view.read (Elt F) (X m c)) Finset.univ) ⊢ cellPay m (q c) (ds 8) := by
  show _ ⊢ iprop(∃ f, vpt (w0 a3M) (q c) ((w0 a3M).view.write (Elt F) f (XA0 m (q (q c))) Finset.univ))
  rw [q_q]; iintro H; iexists fd; iexact H
theorem pay9 (fd : Buf (Elt F) (a3M.view.loc (q c : Thread nD τ))) :
    vpt (w1 a3M) (q c) ((w1 a3M).view.write (Elt F) fd ((xA1 c).view.read (Elt F) (X m c)) Finset.univ) ⊢ cellPay m (q c) (ds 9) := by
  show _ ⊢ iprop(∃ f, vpt (w1 a3M) (q c) ((w1 a3M).view.write (Elt F) f (XA1 m (q (q c))) Finset.univ))
  rw [q_q]; iintro H; iexists fd; iexact H
theorem pay10 (fd : Buf (Elt F) (a3M.view.loc (q c : Thread nD τ))) :
    vpt (w2 a3M) (q c) ((w2 a3M).view.write (Elt F) fd ((xA2 c).view.read (Elt F) (X m c)) Finset.univ) ⊢ cellPay m (q c) (ds 10) := by
  show _ ⊢ iprop(∃ f, vpt (w2 a3M) (q c) ((w2 a3M).view.write (Elt F) f (XA2 m (q (q c))) Finset.univ))
  rw [q_q]; iintro H; iexists fd; iexact H
theorem pay22 (fd : Buf (Elt F) (a4M.view.loc (r c : Thread nD τ))) :
    vpt (w0 a4M) (r c) ((w0 a4M).view.write (Elt F) fd ((xB0 c).view.read (Elt F) (X m c)) Finset.univ) ⊢ cellPay m (r c) (ds 22) := by
  show _ ⊢ iprop(∃ f, vpt (w0 a4M) (r c) ((w0 a4M).view.write (Elt F) f (XB0 m (r (r c))) Finset.univ))
  rw [r_r]; iintro H; iexists fd; iexact H
theorem pay23 (fd : Buf (Elt F) (a4M.view.loc (r c : Thread nD τ))) :
    vpt (w1 a4M) (r c) ((w1 a4M).view.write (Elt F) fd ((xB1 c).view.read (Elt F) (X m c)) Finset.univ) ⊢ cellPay m (r c) (ds 23) := by
  show _ ⊢ iprop(∃ f, vpt (w1 a4M) (r c) ((w1 a4M).view.write (Elt F) f (XB1 m (r (r c))) Finset.univ))
  rw [r_r]; iintro H; iexists fd; iexact H
theorem pay24 (fd : Buf (Elt F) (a4M.view.loc (r c : Thread nD τ))) :
    vpt (w2 a4M) (r c) ((w2 a4M).view.write (Elt F) fd ((xB2 c).view.read (Elt F) (X m c)) Finset.univ) ⊢ cellPay m (r c) (ds 24) := by
  show _ ⊢ iprop(∃ f, vpt (w2 a4M) (r c) ((w2 a4M).view.write (Elt F) f (XB2 m (r (r c))) Finset.univ))
  rw [r_r]; iintro H; iexists fd; iexact H

end Pays

end Cert.KernelIdeal.Mesh
-- ==== Proof.BodyA.lean ====
/- The kernel's body, parts 1 to 4: the local copies, the entry barrier, the first-phase sends, the first tile to send on. -/
module

public import proofs.«01_k».proof.Proof.Land

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- A part of the body on the buffers and the semaphores that the kernel is called with. -/
abbrev run {β : Type 1} (p : (a0 : Memref sig .tc .hbm S2048x512 .f32) → a0.IsWhole → (a1 : Memref sig .tc .hbm S1x512 .f32) → a1.IsWhole
    → (a2 : Memref sig .tc .vmem S512x512 .f32) → a2.IsWhole → (a3 : Memref sig .tc .vmem S2x512x256 .f32) → a3.IsWhole
    → (a4 : Memref sig .tc .vmem S2x512x256 .f32) → a4.IsWhole → (a5 : Memref sig .tc .vmem S512x256 .f32) → a5.IsWhole
    → (a6 : Memref sig .tc .vmem S512x256 .f32) → a6.IsWhole → (a7 : Memref sig .tc .vmem S512x256 .f32) → a7.IsWhole
    → (a8 : Memref sig .tc .vmem S512x256 .f32) → a8.IsWhole → (a9 : Memref sig .tc .vmem S512x512 .f32) → a9.IsWhole
    → (a10 : Memref sig .tc .vmem S512x256 .f32) → a10.IsWhole → (a11 : Memref sig .tc .vmem S512x256 .f32) → a11.IsWhole
    → (a12 : Memref sig .tc .vmem S1x512 .f32) → a12.IsWhole → DmaSems sig S7 → DmaSems sig S7 → DmaSems sig S7 → DmaSems sig S7 → DmaSems sig S4 → β) : β :=
  p a0M (Memref.isWhole_whole _) a1M (Memref.isWhole_whole _) a2M (Memref.isWhole_whole _) a3M (Memref.isWhole_whole _) a4M (Memref.isWhole_whole _)
    a5M (Memref.isWhole_whole _) a6M (Memref.isWhole_whole _) a7M (Memref.isWhole_whole _) a8M (Memref.isWhole_whole _) a9M (Memref.isWhole_whole _)
    a10M (Memref.isWhole_whole _) a11M (Memref.isWhole_whole _) a12M (Memref.isWhole_whole _)
    cc0_scratch10 cc0_scratch11 cc0_scratch12 cc0_scratch13 cc0_scratch14

abbrev bar : Sems sig S_ := SemArray.scalar (sig.barrier 0 rfl)

/-! ## Part 1: the local copies, and the entry signal to the left -/

theorem part1 (l : List (Fin 16)) (Q : (Σ' (d0 : Dev nD) (v8 : BitVec 32) (v9 : BitVec 32) (v25 : Sems sig S_), BitVec 32) → sProp 𝕄) :
    iprop(EnvA m K c ∗ ow c (0 :: l) ∗ dutyTok ER (barCell (lft c)) 0 true ∗ give c (lft c)
      ∗ (vpt (xFA c) c (X m c) ∗ (∃ f, vpt a10M c f) ∗ lt c (ds 30))
      ∗ (vpt (xFB c) c (X m c) ∗ (∃ f, vpt a11M c f) ∗ lt c (ds 31))
      ∗ (vpt (xOWN c) c (X m c) ∗ (∃ f, vpt a9M c f) ∗ lt c (ds 29))
      ∗ (vpt a1M c (G m c) ∗ (∃ f, vpt a12M c f) ∗ lt c (ds 32)))
    ⊢ iprop((∀ (a b e : BitVec 32), ow c l ∗ wt c (ds 30) ∗ wt c (ds 31) ∗ wt c (ds 29) ∗ wt c (ds 32) -∗ Q ⟨c, a, b, bar, e⟩)
      -∗ wp frame (wpE (defs₀ (F := F)) 𝒱₀ (c : Thread nD τ) none) Set.univ (run (k0_part1 (F := F))) Q) := by
  rw [k0_part1_eq_skeleton]
  unfold run k0_part1_skel
  simp only [semSignalWord, semWaitWord, Prog.lift, Prog.bind_op, Prog.bind_ret, Prog.pure_eq_ret, wp_deviceId]
  iintro ⟨#HE, Ho, Ht, Hg, ⟨Hx1, Hd1, Ht1⟩, ⟨Hx2, Hd2, Ht2⟩, ⟨Hx3, Hd3, Ht3⟩, ⟨Hx4, Hd4, Ht4⟩⟩ Hk
  iapply (copy_step m K c (src := xFA c) (dst := a10M) (ds 30) (by decide) rfl (pay30 m c)) $$ [Hx1 Hd1 Ht1]
  · isplitr; · iexact HE
    isplitl [Hx1]; · iexact Hx1
    isplitl [Hd1] <;> iassumption
  iintro Hw1
  iapply (copy_step m K c (src := xFB c) (dst := a11M) (ds 31) (by decide) rfl (pay31 m c)) $$ [Hx2 Hd2 Ht2]
  · isplitr; · iexact HE
    isplitl [Hx2]; · iexact Hx2
    isplitl [Hd2] <;> iassumption
  iintro Hw2
  iapply (copy_step m K c (src := xOWN c) (dst := a9M) (ds 29) (by decide) rfl (pay29 m c)) $$ [Hx3 Hd3 Ht3]
  · isplitr; · iexact HE
    isplitl [Hx3]; · iexact Hx3
    isplitl [Hd3] <;> iassumption
  iintro Hw3
  iapply (copy_step m K c (src := a1M) (dst := a12M) (ds 32) (by decide) rfl (pay32 m c)) $$ [Hx4 Hd4 Ht4]
  · isplitr; · iexact HE
    isplitl [Hx4]; · iexact Hx4
    isplitl [Hd4] <;> iassumption
  iintro Hw4
  iapply (signal_step m K c _ (lft c) (dev1 c) true 0 l rfl (rgt_lft c)) $$ [Ho Ht Hg]
  · isplitr; · iexact HE
    isplitl [Ho]; · iexact Ho
    isplitl [Ht] <;> iassumption
  iintro Ho
  rw [wp_ret]
  imodintro
  iapply Hk
  isplitl [Ho]; · iexact Ho
  isplitl [Hw1]; · iexact Hw1
  isplitl [Hw2]; · iexact Hw2
  isplitl [Hw3] <;> iassumption

/-! ## Cutting a landing buffer into its landing regions, and the entry barrier's payloads -/

section Cut

variable {s s' : Shape} (M : Memref sig .tc .vmem s .f32)

theorem ex_squeeze (R : Rect s) (h) (hq : R.shape.Squeezes s') :
    (iprop(∃ f, on (F := F) M c R.set f) : sProp 𝕄) = iprop(∃ f, vpt ((M.slice R h).squeeze s' hq) c f) :=
  congrArg (fun P : Buf (Elt F) (M.view.loc (c : Thread nD τ)) → sProp 𝕄 => iprop(∃ f, P f)) (funext fun f => (vpt_squeeze M c R h hq f).symm)
theorem ex_slice (R : Rect s) (h) : (iprop(∃ f, on (F := F) M c R.set f) : sProp 𝕄) = iprop(∃ f, vpt (M.slice R h) c f) :=
  congrArg (fun P : Buf (Elt F) (M.view.loc (c : Thread nD τ)) → sProp 𝕄 => iprop(∃ f, P f)) (funext fun f => (vpt_slice M c R h f).symm)
theorem ex_all {S : Finset s.Idx} (h : Finset.univ = S) : (iprop(∃ f, vpt (F := F) M c f) : sProp 𝕄) = iprop(∃ f, on M c S f) := by
  subst h; rfl

end Cut

theorem d2_disj : Disjoint (D0.set ∪ D1.set) D2.set := by rw [← dd_eq]; exact dd_disj
theorem ex_w (M : Memref sig .tc .vmem S2x512x256 .f32) : (iprop(∃ f, vpt (F := F) M c f) : sProp 𝕄)
    ⊣⊢ iprop((∃ f, vpt (w0 M) c f) ∗ (∃ f, vpt (w1 M) c f) ∗ (∃ f, vpt (w2 M) c f)) := by
  rw [ex_all c M d_all, ← ex_squeeze c M D0, ← ex_squeeze c M D1, ← ex_squeeze c M D2]
  constructor
  · iintro H
    ihave H := (on_split M c d2_disj) $$ H
    icases H with ⟨H, H2⟩
    ihave H := (on_split M c d_disj) $$ H
    icases H with ⟨H0, H1⟩
    isplitl [H0]; · iexact H0
    isplitl [H1] <;> iassumption
  · iintro ⟨H0, H1, H2⟩
    iapply (on_join M c d2_disj)
    isplitl [H0 H1]
    · iapply (on_join M c d_disj)
      isplitl [H0] <;> iassumption
    · iexact H2

theorem ex_z01 (M : Memref sig .tc .vmem S512x256 .f32) : (iprop(∃ f, on (F := F) M c H0.set f) : sProp 𝕄)
    ⊣⊢ iprop((∃ f, vpt (z0 M) c f) ∗ (∃ f, vpt (z1 M) c f)) := by
  rw [h0_eq, ← ex_slice c M Q0, ← ex_slice c M Q1]
  exact ⟨on_split M c q01, on_join M c q01⟩
theorem ex_z23 (M : Memref sig .tc .vmem S512x256 .f32) : (iprop(∃ f, on (F := F) M c H1.set f) : sProp 𝕄)
    ⊣⊢ iprop((∃ f, vpt (z2 M) c f) ∗ (∃ f, vpt (z3 M) c f)) := by
  rw [h1_eq, ← ex_slice c M Q2, ← ex_slice c M Q3]
  exact ⟨on_split M c q23, on_join M c q23⟩
theorem ex_h (M : Memref sig .tc .vmem S512x256 .f32) : (iprop(∃ f, vpt (F := F) M c f) : sProp 𝕄)
    ⊣⊢ iprop((∃ f, on M c H0.set f) ∗ (∃ f, on M c H1.set f)) := by
  rw [ex_all c M h_all]
  exact ⟨on_split M c h01, on_join M c h01⟩
theorem ex_z (M : Memref sig .tc .vmem S512x256 .f32) : (iprop(∃ f, vpt (F := F) M c f) : sProp 𝕄)
    ⊣⊢ iprop((∃ f, vpt (z0 M) c f) ∗ (∃ f, vpt (z1 M) c f) ∗ (∃ f, vpt (z2 M) c f) ∗ (∃ f, vpt (z3 M) c f)) := by
  constructor
  · iintro H
    ihave H := (ex_h c M).1 $$ H
    icases H with ⟨H, H'⟩
    ihave H := (ex_z01 c M).1 $$ H
    icases H with ⟨H0, H1⟩
    ihave H' := (ex_z23 c M).1 $$ H'
    icases H' with ⟨H2, H3⟩
    isplitl [H0]; · iexact H0
    isplitl [H1]; · iexact H1
    isplitl [H2] <;> iassumption
  · iintro ⟨H0, H1, H2, H3⟩
    iapply (ex_h c M).2
    isplitl [H0 H1]
    · iapply (ex_z01 c M).2
      isplitl [H0] <;> iassumption
    · iapply (ex_z23 c M).2
      isplitl [H2] <;> iassumption

theorem give_make : iprop((∃ f, vpt a3M c f) ∗ (∃ f, vpt a4M c f) ∗ (∃ f, vpt a7M c f) ∗ (∃ f, vpt a8M c f) ∗ rch c)
    ⊢ (iprop(give (F := F) c (lft c) ∗ give c (rgt c)) : sProp 𝕄) := by
  have h : (lft c = q c ∧ rgt c ≠ q c) ∨ (lft c ≠ q c ∧ rgt c = q c) := by revert c; decide
  unfold give
  iintro ⟨H3, H4, H7, H8, #Hr⟩
  rcases h with ⟨h1, h2⟩ | ⟨h1, h2⟩
  · rw [if_pos h1, if_neg h2]
    isplitl [H3 H8]
    · isplitl [H3]; · iexact H3
      isplitl [H8] <;> iassumption
    · isplitl [H4]; · iexact H4
      isplitl [H7] <;> iassumption
  · rw [if_neg h1, if_pos h2]
    isplitl [H4 H7]
    · isplitl [H4]; · iexact H4
      isplitl [H7] <;> iassumption
    · isplitl [H3]; · iexact H3
      isplitl [H8] <;> iassumption

theorem give_take : (iprop(give (F := F) (lft c) c ∗ give (rgt c) c) : sProp 𝕄)
    ⊢ iprop(((∃ f, vpt a3M (q c) f) ∗ (∃ f, vpt a8M (q c) f) ∗ rch (q c)) ∗ (∃ f, vpt a4M (r c) f) ∗ (∃ f, vpt a7M (r c) f) ∗ rch (r c)) := by
  have h : (lft c = q c ∧ rgt c = r c) ∨ (lft c = r c ∧ rgt c = q c) := by revert c; decide
  have h1 : c = q (q c) := (q_q c).symm
  have h2 : c ≠ q (r c) := by revert c; decide
  unfold give
  rcases h with ⟨e1, e2⟩ | ⟨e1, e2⟩
  · rw [e1, e2, if_pos h1, if_neg h2]
  · rw [e1, e2, if_pos h1, if_neg h2]
    iintro ⟨H1, H2⟩
    isplitl [H2] <;> iassumption

/-! ## Part 2: the entry signal to the right, the barrier, and the first send -/

theorem part2 (v8 v9 v28 : BitVec 32) (l : List (Fin 16)) (hl : ∀ i ∈ (2 : Fin 16) :: l, 1 < lvS (oSem i)) (Q : PUnit → sProp 𝕄) :
    iprop(EnvA m K c ∗ ow c (1 :: 2 :: l) ∗ dutyTok ER (barCell (rgt c)) 0 false ∗ give c (rgt c)
      ∗ (cred (tallyAt (barCell c) () 2) ∗ atPos ER (barCell c) 0 ∅ 0) ∗ vpt (xA0 c) c (X m c) ∗ stk c (q c) (ds 1) (ds 8))
    ⊢ iprop((ow c l ∗ wt c (ds 1) ∗ atPos ER (barCell c) 1 ∅ 0 ∗ (rch (q c) ∗ rch (r c))
          ∗ ((∃ f, vpt (w1 a3M) (q c) f) ∗ (∃ f, vpt (w2 a3M) (q c) f))
          ∗ ((∃ f, vpt (w0 a4M) (r c) f) ∗ (∃ f, vpt (w1 a4M) (r c) f) ∗ (∃ f, vpt (w2 a4M) (r c) f))
          ∗ (∃ f, vpt a7M (r c) f) ∗ (∃ f, vpt a8M (q c) f) -∗ Q ⟨⟩)
      -∗ wp frame (wpE (defs₀ (F := F)) 𝒱₀ (c : Thread nD τ) none) Set.univ (run (k0_part2 (F := F)) c v8 v9 bar v28) Q) := by
  rw [k0_part2_eq_skeleton]
  unfold run k0_part2_skel
  simp only [semSignalWord, semWaitWord, Prog.lift, Prog.bind_op, Prog.bind_ret, Prog.pure_eq_ret, wp_deviceId]
  iintro ⟨#HE, Ho, Ht, Hg, ⟨Hc, Hat⟩, Hx, Hs⟩ Hk
  iapply (signal_step m K c _ (rgt c) (dev2 c) false 1 (2 :: l) rfl (lft_rgt c)) $$ [Ho Ht Hg]
  · isplitr; · iexact HE
    isplitl [Ho]; · iexact Ho
    isplitl [Ht] <;> iassumption
  iintro Ho
  iapply (barrier_step m K c (2 :: l) hl) $$ [Ho Hc Hat]
  · isplitr; · iexact HE
    isplitl [Ho]; · iexact Ho
    isplitl [Hc] <;> iassumption
  iintro ⟨Ho, Hat, H1, H2⟩
  ihave H := (give_take c) $$ [H1 H2]
  · isplitl [H1] <;> iassumption
  icases H with ⟨⟨H3, H8, #Hq⟩, H4, H7, #Hr⟩
  ihave H3 := (ex_w (q c) a3M).1 $$ H3
  icases H3 with ⟨H30, H31, H32⟩
  ihave H4 := (ex_w (r c) a4M).1 $$ H4
  iapply (send_step m K c _ (q c) (dev3 c) (.inl rfl) (src := xA0 c) (dst := w0 a3M) (ds 1) (ds 8) (by decide) (by decide) 2 l rfl rfl rfl
    (Entails.of_eq rfl) (pay8 m c)) $$ [Hx H30 Ho Hs]
  · isplitr
    · unfold Env
      isplitr; · iexact HE
      isplitr <;> iassumption
    isplitl [Hx]; · iexact Hx
    isplitl [H30]; · iexact H30
    isplitl [Ho] <;> iassumption
  iintro ⟨Hw, Ho⟩
  rw [wp_ret]
  imodintro
  iapply Hk
  isplitl [Ho]; · iexact Ho
  isplitl [Hw]; · iexact Hw
  isplitl [Hat]; · iexact Hat
  isplitr
  · isplitr <;> iassumption
  isplitl [H31 H32]
  · isplitl [H31] <;> iassumption
  isplitl [H4]; · iexact H4
  isplitl [H7] <;> iassumption

end Cert.KernelIdeal.Mesh
-- ==== Proof.BodyB.lean ====
/- The kernel's body, parts 3 to 10: the sends of both phases and the sums sent on and kept. -/
module

public import proofs.«01_k».proof.Proof.BodyA

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

theorem env_a : Env m K c ⊢ EnvA m K c := by
  unfold Env
  iintro ⟨H, -⟩
  iexact H

/-! ## What the waits hand over -/

section Got

variable {s s' : Shape} (M : Memref sig .tc .vmem s .f32)

theorem ex_landed (R : Rect s) (h) (hq : R.shape.Squeezes s') (w : s'.Idx → Elt F .f32) :
    (iprop(∃ f, vpt ((M.slice R h).squeeze s' hq) c (((M.slice R h).squeeze s' hq).view.write (Elt F) f w Finset.univ)) : sProp 𝕄)
      = iprop(∃ f, on M c R.set (((M.slice R h).squeeze s' hq).view.write (Elt F) f w Finset.univ)) :=
  congrArg (fun P : Buf (Elt F) (M.view.loc (c : Thread nD τ)) → sProp 𝕄 => iprop(∃ f, P f))
    (funext fun f => vpt_squeeze M c R h hq (((M.slice R h).squeeze s' hq).view.write (Elt F) f w Finset.univ))

end Got

theorem cp8 : cellPay m c (ds 8) ⊢ iprop(∃ f, on a3M c D0.set ((w0 a3M).view.write (Elt F) f (XA0 m (q c)) Finset.univ)) :=
  Entails.of_eq (ex_landed c a3M D0 _ _ (XA0 m (q c)))
theorem cp9 : cellPay m c (ds 9) ⊢ iprop(∃ f, on a3M c D1.set ((w1 a3M).view.write (Elt F) f (XA1 m (q c)) Finset.univ)) :=
  Entails.of_eq (ex_landed c a3M D1 _ _ (XA1 m (q c)))
theorem cp10 : cellPay m c (ds 10) ⊢ iprop(∃ f, on a3M c D2.set ((w2 a3M).view.write (Elt F) f (XA2 m (q c)) Finset.univ)) :=
  Entails.of_eq (ex_landed c a3M D2 _ _ (XA2 m (q c)))
theorem cp22 : cellPay m c (ds 22) ⊢ iprop(∃ f, on a4M c D0.set ((w0 a4M).view.write (Elt F) f (XB0 m (r c)) Finset.univ)) :=
  Entails.of_eq (ex_landed c a4M D0 _ _ (XB0 m (r c)))
theorem cp23 : cellPay m c (ds 23) ⊢ iprop(∃ f, on a4M c D1.set ((w1 a4M).view.write (Elt F) f (XB1 m (r c)) Finset.univ)) :=
  Entails.of_eq (ex_landed c a4M D1 _ _ (XB1 m (r c)))
theorem cp24 : cellPay m c (ds 24) ⊢ iprop(∃ f, on a4M c D2.set ((w2 a4M).view.write (Elt F) f (XB2 m (r c)) Finset.univ)) :=
  Entails.of_eq (ex_landed c a4M D2 _ _ (XB2 m (r c)))
theorem cp1 : cellPay m c (ds 1) ⊢ iprop(vpt (xA0 c) c (X m c)) := Entails.of_eq rfl
theorem cp2 : cellPay m c (ds 2) ⊢ iprop(vpt (xA1 c) c (X m c)) := Entails.of_eq rfl
theorem cp3 : cellPay m c (ds 3) ⊢ iprop(vpt (xA2 c) c (X m c)) := Entails.of_eq rfl
theorem cp4 : cellPay m c (ds 4) ⊢ iprop(vpt (z0 a5M) c (SA2 m c)) := Entails.of_eq rfl
theorem cp5 : cellPay m c (ds 5) ⊢ iprop(vpt (z1 a5M) c (SA2 m c)) := Entails.of_eq rfl
theorem cp6 : cellPay m c (ds 6) ⊢ iprop(vpt (z2 a5M) c (SA2 m c)) := Entails.of_eq rfl
theorem cp7 : cellPay m c (ds 7) ⊢ iprop(vpt (z3 a5M) c (SA2 m c)) := Entails.of_eq rfl
theorem cp11 : cellPay m c (ds 11) ⊢ iprop(on a7M c Q0.set (SA2 m (r c))) := Entails.of_eq (vpt_slice a7M c Q0 _ _)
theorem cp12 : cellPay m c (ds 12) ⊢ iprop(on a7M c Q1.set (SA2 m (r c))) := Entails.of_eq (vpt_slice a7M c Q1 _ _)
theorem cp13 : cellPay m c (ds 13) ⊢ iprop(on a7M c Q2.set (SA2 m (r c))) := Entails.of_eq (vpt_slice a7M c Q2 _ _)
theorem cp14 : cellPay m c (ds 14) ⊢ iprop(on a7M c Q3.set (SA2 m (r c))) := Entails.of_eq (vpt_slice a7M c Q3 _ _)
theorem cp15 : cellPay m c (ds 15) ⊢ iprop(vpt (xB0 c) c (X m c)) := Entails.of_eq rfl
theorem cp16 : cellPay m c (ds 16) ⊢ iprop(vpt (xB1 c) c (X m c)) := Entails.of_eq rfl
theorem cp17 : cellPay m c (ds 17) ⊢ iprop(vpt (xB2 c) c (X m c)) := Entails.of_eq rfl
theorem cp18 : cellPay m c (ds 18) ⊢ iprop(vpt (z0 a6M) c (SB2 m c)) := Entails.of_eq rfl
theorem cp19 : cellPay m c (ds 19) ⊢ iprop(vpt (z1 a6M) c (SB2 m c)) := Entails.of_eq rfl
theorem cp20 : cellPay m c (ds 20) ⊢ iprop(vpt (z2 a6M) c (SB2 m c)) := Entails.of_eq rfl
theorem cp21 : cellPay m c (ds 21) ⊢ iprop(vpt (z3 a6M) c (SB2 m c)) := Entails.of_eq rfl
theorem cp25 : cellPay m c (ds 25) ⊢ iprop(on a8M c Q0.set (SB2 m (q c))) := Entails.of_eq (vpt_slice a8M c Q0 _ _)
theorem cp26 : cellPay m c (ds 26) ⊢ iprop(on a8M c Q1.set (SB2 m (q c))) := Entails.of_eq (vpt_slice a8M c Q1 _ _)
theorem cp27 : cellPay m c (ds 27) ⊢ iprop(on a8M c Q2.set (SB2 m (q c))) := Entails.of_eq (vpt_slice a8M c Q2 _ _)
theorem cp28 : cellPay m c (ds 28) ⊢ iprop(on a8M c Q3.set (SB2 m (q c))) := Entails.of_eq (vpt_slice a8M c Q3 _ _)
theorem cp29 : cellPay m c (ds 29) ⊢ iprop(vpt a9M c (OWN m c) ∗ vpt (xOWN c) c (X m c)) := Entails.of_eq rfl
theorem cp30 : cellPay m c (ds 30) ⊢ iprop(vpt a10M c (FA m c) ∗ vpt (xFA c) c (X m c)) := Entails.of_eq rfl
theorem cp31 : cellPay m c (ds 31) ⊢ iprop(vpt a11M c (FB m c) ∗ vpt (xFB c) c (X m c)) := Entails.of_eq rfl
theorem cp32 : cellPay m c (ds 32) ⊢ iprop(vpt a12M c (G m c) ∗ vpt a1M c (G m c)) := Entails.of_eq rfl

theorem z01_at (M : Memref sig .tc .vmem S512x256 .f32) (f : Buf (Elt F) (M.view.loc (c : Thread nD τ))) :
    on M c H0.set f ⊢ iprop(vpt (z0 M) c f ∗ vpt (z1 M) c f) := by
  rw [h0_eq, vpt_slice M c Q0, vpt_slice M c Q1]; exact (on_union M c q01 f).1
theorem z23_at (M : Memref sig .tc .vmem S512x256 .f32) (f : Buf (Elt F) (M.view.loc (c : Thread nD τ))) :
    on M c H1.set f ⊢ iprop(vpt (z2 M) c f ∗ vpt (z3 M) c f) := by
  rw [h1_eq, vpt_slice M c Q2, vpt_slice M c Q3]; exact (on_union M c q23 f).1

/-! ## The parts -/

theorem part3 (v8 v9 : BitVec 32) (l : List (Fin 16)) (Q : PUnit → sProp 𝕄) :
    iprop(Env m K c ∗ ow c (3 :: 4 :: 5 :: l)
      ∗ vpt (xB0 c) c (X m c)
      ∗ vpt (xA1 c) c (X m c)
      ∗ vpt (xB1 c) c (X m c)
      ∗ (∃ f, vpt (w0 a4M) (r c) f)
      ∗ (∃ f, vpt (w1 a3M) (q c) f)
      ∗ (∃ f, vpt (w1 a4M) (r c) f)
      ∗ stk c (r c) (ds 15) (ds 22)
      ∗ stk c (q c) (ds 2) (ds 9)
      ∗ stk c (r c) (ds 16) (ds 23))
    ⊢ iprop((ow c l ∗ wt c (ds 15) ∗ wt c (ds 2) ∗ wt c (ds 16) -∗ Q ⟨⟩)
      -∗ wp frame (wpE (defs₀ (F := F)) 𝒱₀ (c : Thread nD τ) none) Set.univ (run (k0_part3 (F := F)) c v8 v9) Q) := by
  rw [k0_part3_eq_skeleton]
  unfold run k0_part3_skel
  simp only [semSignalWord, semWaitWord, Prog.lift, Prog.bind_op, Prog.bind_ret, Prog.pure_eq_ret, wp_deviceId]
  iintro ⟨#HE, Ho, Hx1, Hx2, Hx3, Hd1, Hd2, Hd3, Hs1, Hs2, Hs3⟩ Hk
  ihave #HA := (env_a m K c) $$ HE
  iapply (send_step m K c _ (r c) (dev4 c) (.inr rfl) (src := xB0 c) (dst := w0 a4M) (ds 15) (ds 22) (by decide) (by decide) 3 (4 :: 5 :: l) rfl rfl rfl
    (Entails.of_eq rfl) (pay22 m c)) $$ [Hx1 Hd1 Ho Hs1]
  · isplitr
    · iexact HE
    isplitl [Hx1]
    · iexact Hx1
    isplitl [Hd1]
    · iexact Hd1
    isplitl [Ho]
    · iexact Ho
    iexact Hs1
  iintro ⟨Hw1, Ho⟩
  iapply (send_step m K c _ (q c) (dev5 c) (.inl rfl) (src := xA1 c) (dst := w1 a3M) (ds 2) (ds 9) (by decide) (by decide) 4 (5 :: l) rfl rfl rfl
    (Entails.of_eq rfl) (pay9 m c)) $$ [Hx2 Hd2 Ho Hs2]
  · isplitr
    · iexact HE
    isplitl [Hx2]
    · iexact Hx2
    isplitl [Hd2]
    · iexact Hd2
    isplitl [Ho]
    · iexact Ho
    iexact Hs2
  iintro ⟨Hw2, Ho⟩
  iapply (send_step m K c _ (r c) (dev6 c) (.inr rfl) (src := xB1 c) (dst := w1 a4M) (ds 16) (ds 23) (by decide) (by decide) 5 l rfl rfl rfl
    (Entails.of_eq rfl) (pay23 m c)) $$ [Hx3 Hd3 Ho Hs3]
  · isplitr
    · iexact HE
    isplitl [Hx3]
    · iexact Hx3
    isplitl [Hd3]
    · iexact Hd3
    isplitl [Ho]
    · iexact Ho
    iexact Hs3
  iintro ⟨Hw3, Ho⟩
  rw [wp_ret]
  imodintro
  iapply Hk
  isplitl [Ho]
  · iexact Ho
  isplitl [Hw1]
  · iexact Hw1
  isplitl [Hw2]
  · iexact Hw2
  iexact Hw3

theorem part4 (v8 v9 : BitVec 32) (Q : PUnit → sProp 𝕄) :
    iprop(Env m K c ∗ ow c (6 :: 7 :: [8, 9, 10, 11, 12, 13, 14, 15])
      ∗ vpt (xA2 c) c (X m c)
      ∗ vpt (xB2 c) c (X m c)
      ∗ (∃ f, vpt (w2 a3M) (q c) f)
      ∗ (∃ f, vpt (w2 a4M) (r c) f)
      ∗ stk c (q c) (ds 3) (ds 10)
      ∗ stk c (r c) (ds 17) (ds 24)
      ∗ wt c (ds 8)
      ∗ wt c (ds 30)
      ∗ (∃ f, on a5M c H0.set f))
    ⊢ iprop((ow c [8, 9, 10, 11, 12, 13, 14, 15]
      ∗ wt c (ds 3)
      ∗ wt c (ds 17)
      ∗ dn c (ds 8)
      ∗ dn c (ds 30)
      ∗ (∃ f, on a3M c D0.set f)
      ∗ (vpt a10M c (FA m c) ∗ vpt (xFA c) c (X m c))
      ∗ (vpt (z0 a5M) c (SA2 m c) ∗ vpt (z1 a5M) c (SA2 m c)) -∗ Q ⟨⟩)
      -∗ wp frame (wpE (defs₀ (F := F)) 𝒱₀ (c : Thread nD τ) none) Set.univ (run (k0_part4 (F := F)) c v8 v9) Q) := by
  rw [k0_part4_eq_skeleton]
  unfold run k0_part4_skel
  simp only [semSignalWord, semWaitWord, Prog.lift, Prog.bind_op, Prog.bind_ret, Prog.pure_eq_ret, wp_deviceId]
  iintro ⟨#HE, Ho, Hx1, Hx2, Hd1, Hd2, Hs1, Hs2, Hw8, Hw30, ⟨%f5, H5⟩⟩ Hk
  ihave #HA := (env_a m K c) $$ HE
  iapply (send_step m K c _ (q c) (dev7 c) (.inl rfl) (src := xA2 c) (dst := w2 a3M) (ds 3) (ds 10) (by decide) (by decide) 6 (7 :: [8, 9, 10, 11, 12, 13, 14, 15]) rfl rfl rfl
    (Entails.of_eq rfl) (pay10 m c)) $$ [Hx1 Hd1 Ho Hs1]
  · isplitr
    · iexact HE
    isplitl [Hx1]
    · iexact Hx1
    isplitl [Hd1]
    · iexact Hd1
    isplitl [Ho]
    · iexact Ho
    iexact Hs1
  iintro ⟨Hw1, Ho⟩
  iapply (send_step m K c _ (r c) (dev8 c) (.inr rfl) (src := xB2 c) (dst := w2 a4M) (ds 17) (ds 24) (by decide) (by decide) 7 [8, 9, 10, 11, 12, 13, 14, 15] rfl rfl rfl
    (Entails.of_eq rfl) (pay24 m c)) $$ [Hx2 Hd2 Ho Hs2]
  · isplitr
    · iexact HE
    isplitl [Hx2]
    · iexact Hx2
    isplitl [Hd2]
    · iexact Hd2
    isplitl [Ho]
    · iexact Ho
    iexact Hs2
  iintro ⟨Hw2, Ho⟩
  iapply (wait_step m K c (dst := w0 a3M) (ds 8) (by decide) rfl [8, 9, 10, 11, 12, 13, 14, 15] (by decide)) $$ [Ho Hw8]
  · isplitr
    · iexact HA
    isplitl [Ho]
    · iexact Ho
    iexact Hw8
  iintro ⟨Ho, Hd8, Hp⟩
  ihave Hp := (cp8 m c) $$ Hp
  icases Hp with ⟨%f3, H3⟩
  iapply (wait_step m K c (dst := a10M) (ds 30) (by decide) rfl [8, 9, 10, 11, 12, 13, 14, 15] (by decide)) $$ [Ho Hw30]
  · isplitr
    · iexact HA
    isplitl [Ho]
    · iexact Ho
    iexact Hw30
  iintro ⟨Ho, Hd30, Hp⟩
  ihave Hp := (cp30 m c) $$ Hp
  icases Hp with ⟨H10, HxF⟩
  iapply (load_step c (M := a3M) (R := D0) (f := (w0 a3M).view.write (Elt F) f3 (XA0 m (q c)) Finset.univ) (acc_sub a3M D0 (Finset.Subset.refl _)) (rd_w0 a3M f3 (XA0 m (q c)))) $$ [H3]
  · iexact H3
  iintro H3
  iapply (load_step c (M := a10M) (R := H0) (f := FA m c) (acc_sub a10M H0 (Finset.subset_univ _)) rfl) $$ [H10]
  · iexact H10
  iintro H10
  iapply (load_step c (M := a5M) (R := H0) (f := f5) (acc_sub a5M H0 (Finset.Subset.refl _)) rfl) $$ [H5]
  · iexact H5
  iintro H5
  iapply (store_step c (M := a5M) (R := H0) (f := f5) (f' := SA2 m c) (acc_sub a5M H0 (Finset.Subset.refl _)) (sa2_h0 m c f5)) $$ [H5]
  · iexact H5
  iintro H5
  ihave H5 := (z01_at c a5M (SA2 m c)) $$ H5
  ihave H3e : iprop(∃ f, on a3M c D0.set f) $$ [H3]
  · iexists _; iexact H3
  rw [wp_ret]
  imodintro
  iapply Hk
  isplitl [Ho]
  · iexact Ho
  isplitl [Hw1]
  · iexact Hw1
  isplitl [Hw2]
  · iexact Hw2
  isplitl [Hd8]
  · iexact Hd8
  isplitl [Hd30]
  · iexact Hd30
  isplitl [H3e]
  · iexact H3e
  isplitl [H10 HxF]
  · isplitl [H10]
    · iexact H10
    iexact HxF
  iexact H5

theorem part5 (v9 : BitVec 32) (Q : FVec F S256x256 .f32 → sProp 𝕄) :
    iprop(Env m K c ∗ ow c (8 :: 9 :: [10, 11, 12, 13, 14, 15])
      ∗ vpt (z0 a5M) c (SA2 m c)
      ∗ vpt (z1 a5M) c (SA2 m c)
      ∗ (∃ f, vpt (z0 a7M) (r c) f)
      ∗ (∃ f, vpt (z1 a7M) (r c) f)
      ∗ stk c (r c) (ds 4) (ds 11)
      ∗ stk c (r c) (ds 5) (ds 12)
      ∗ wt c (ds 22)
      ∗ wt c (ds 31))
    ⊢ iprop((ow c [10, 11, 12, 13, 14, 15] ∗ wt c (ds 4) ∗ wt c (ds 5) ∗ dn c (ds 22) ∗ dn c (ds 31) ∗ (∃ f, on a4M c D0.set f) ∗ (vpt a11M c (FB m c) ∗ vpt (xFB c) c (X m c)) -∗ Q (k0_pay2 (V1 (XB0 m (r c)))))
      -∗ wp frame (wpE (defs₀ (F := F)) 𝒱₀ (c : Thread nD τ) none) Set.univ (run (k0_part5 (F := F)) c v9) Q) := by
  rw [k0_part5_eq_skeleton]
  unfold run k0_part5_skel
  simp only [semSignalWord, semWaitWord, Prog.lift, Prog.bind_op, Prog.bind_ret, Prog.pure_eq_ret, wp_deviceId]
  iintro ⟨#HE, Ho, Hx1, Hx2, Hd1, Hd2, Hs1, Hs2, Hw22, Hw31⟩ Hk
  ihave #HA := (env_a m K c) $$ HE
  iapply (send_step m K c _ (r c) (dev9 c) (.inr rfl) (src := z0 a5M) (dst := z0 a7M) (ds 4) (ds 11) (by decide) (by decide) 8 (9 :: [10, 11, 12, 13, 14, 15]) rfl rfl rfl
    (Entails.of_eq rfl) (pay11 m c)) $$ [Hx1 Hd1 Ho Hs1]
  · isplitr
    · iexact HE
    isplitl [Hx1]
    · iexact Hx1
    isplitl [Hd1]
    · iexact Hd1
    isplitl [Ho]
    · iexact Ho
    iexact Hs1
  iintro ⟨Hw1, Ho⟩
  iapply (send_step m K c _ (r c) (dev10 c) (.inr rfl) (src := z1 a5M) (dst := z1 a7M) (ds 5) (ds 12) (by decide) (by decide) 9 [10, 11, 12, 13, 14, 15] rfl rfl rfl
    (Entails.of_eq rfl) (pay12 m c)) $$ [Hx2 Hd2 Ho Hs2]
  · isplitr
    · iexact HE
    isplitl [Hx2]
    · iexact Hx2
    isplitl [Hd2]
    · iexact Hd2
    isplitl [Ho]
    · iexact Ho
    iexact Hs2
  iintro ⟨Hw2, Ho⟩
  iapply (wait_step m K c (dst := w0 a4M) (ds 22) (by decide) rfl [10, 11, 12, 13, 14, 15] (by decide)) $$ [Ho Hw22]
  · isplitr
    · iexact HA
    isplitl [Ho]
    · iexact Ho
    iexact Hw22
  iintro ⟨Ho, Hd22, Hp⟩
  ihave Hp := (cp22 m c) $$ Hp
  icases Hp with ⟨%f3, H3⟩
  iapply (wait_step m K c (dst := a11M) (ds 31) (by decide) rfl [10, 11, 12, 13, 14, 15] (by decide)) $$ [Ho Hw31]
  · isplitr
    · iexact HA
    isplitl [Ho]
    · iexact Ho
    iexact Hw31
  iintro ⟨Ho, Hd31, Hp⟩
  ihave Hp := (cp31 m c) $$ Hp
  icases Hp with ⟨H11, HxF⟩
  iapply (load_step c (M := a4M) (R := D0) (f := (w0 a4M).view.write (Elt F) f3 (XB0 m (r c)) Finset.univ) (acc_sub a4M D0 (Finset.Subset.refl _)) (rd_w0 a4M f3 (XB0 m (r c)))) $$ [H3]
  · iexact H3
  iintro H3
  ihave H3e : iprop(∃ f, on a4M c D0.set f) $$ [H3]
  · iexists _; iexact H3
  rw [wp_ret]
  imodintro
  iapply Hk
  isplitl [Ho]
  · iexact Ho
  isplitl [Hw1]
  · iexact Hw1
  isplitl [Hw2]
  · iexact Hw2
  isplitl [Hd22]
  · iexact Hd22
  isplitl [Hd31]
  · iexact Hd31
  isplitl [H3e]
  · iexact H3e
  isplitl [H11]
  · iexact H11
  iexact HxF

theorem part6 (v8 : BitVec 32) (Q : PUnit → sProp 𝕄) :
    iprop(Env m K c ∗ ow c (10 :: 11 :: [12, 13, 14, 15])
      ∗ vpt a11M c (FB m c)
      ∗ (∃ f, on a6M c H0.set f)
      ∗ (∃ f, vpt (z0 a8M) (q c) f)
      ∗ (∃ f, vpt (z1 a8M) (q c) f)
      ∗ stk c (q c) (ds 18) (ds 25)
      ∗ stk c (q c) (ds 19) (ds 26)
      ∗ wt c (ds 9))
    ⊢ iprop((ow c [12, 13, 14, 15]
      ∗ vpt a11M c (FB m c)
      ∗ wt c (ds 18)
      ∗ wt c (ds 19)
      ∗ dn c (ds 9)
      ∗ (∃ f, on a3M c D1.set ((w1 a3M).view.write (Elt F) f (XA1 m (q c)) Finset.univ)) -∗ Q ⟨⟩)
      -∗ wp frame (wpE (defs₀ (F := F)) 𝒱₀ (c : Thread nD τ) none) Set.univ (run (k0_part6 (F := F)) c v8 (k0_pay2 (V1 (XB0 m (r c))))) Q) := by
  rw [k0_part6_eq_skeleton]
  unfold run k0_part6_skel
  simp only [semSignalWord, semWaitWord, Prog.lift, Prog.bind_op, Prog.bind_ret, Prog.pure_eq_ret, wp_deviceId]
  iintro ⟨#HE, Ho, H11, ⟨%f6, H6⟩, Hd1, Hd2, Hs1, Hs2, Hw9⟩ Hk
  ihave #HA := (env_a m K c) $$ HE
  iapply (load_step c (M := a11M) (R := H0) (f := FB m c) (acc_sub a11M H0 (Finset.subset_univ _)) rfl) $$ [H11]
  · iexact H11
  iintro H11
  iapply (load_step c (M := a6M) (R := H0) (f := f6) (acc_sub a6M H0 (Finset.Subset.refl _)) rfl) $$ [H6]
  · iexact H6
  iintro H6
  iapply (store_step c (M := a6M) (R := H0) (f := f6) (f' := SB2 m c) (acc_sub a6M H0 (Finset.Subset.refl _)) (sb2_h0 m c f6)) $$ [H6]
  · iexact H6
  iintro H6
  ihave H6 := (z01_at c a6M (SB2 m c)) $$ H6
  icases H6 with ⟨Hx1, Hx2⟩
  iapply (send_step m K c _ (q c) (dev11 c) (.inl rfl) (src := z0 a6M) (dst := z0 a8M) (ds 18) (ds 25) (by decide) (by decide) 10 (11 :: [12, 13, 14, 15]) rfl rfl rfl
    (Entails.of_eq rfl) (pay25 m c)) $$ [Hx1 Hd1 Ho Hs1]
  · isplitr
    · iexact HE
    isplitl [Hx1]
    · iexact Hx1
    isplitl [Hd1]
    · iexact Hd1
    isplitl [Ho]
    · iexact Ho
    iexact Hs1
  iintro ⟨Hw1, Ho⟩
  iapply (send_step m K c _ (q c) (dev12 c) (.inl rfl) (src := z1 a6M) (dst := z1 a8M) (ds 19) (ds 26) (by decide) (by decide) 11 [12, 13, 14, 15] rfl rfl rfl
    (Entails.of_eq rfl) (pay26 m c)) $$ [Hx2 Hd2 Ho Hs2]
  · isplitr
    · iexact HE
    isplitl [Hx2]
    · iexact Hx2
    isplitl [Hd2]
    · iexact Hd2
    isplitl [Ho]
    · iexact Ho
    iexact Hs2
  iintro ⟨Hw2, Ho⟩
  iapply (wait_step m K c (dst := w1 a3M) (ds 9) (by decide) rfl [12, 13, 14, 15] (by decide)) $$ [Ho Hw9]
  · isplitr
    · iexact HA
    isplitl [Ho]
    · iexact Ho
    iexact Hw9
  iintro ⟨Ho, Hd9, Hp⟩
  ihave Hp := (cp9 m c) $$ Hp
  icases Hp with Hp
  rw [wp_ret]
  imodintro
  iapply Hk
  isplitl [Ho]
  · iexact Ho
  isplitl [H11]
  · iexact H11
  isplitl [Hw1]
  · iexact Hw1
  isplitl [Hw2]
  · iexact Hw2
  isplitl [Hd9]
  · iexact Hd9
  iexact Hp

theorem part7 (v9 : BitVec 32) (Q : PUnit → sProp 𝕄) :
    iprop(Env m K c ∗ ow c (12 :: 13 :: [14, 15])
      ∗ vpt a10M c (FA m c)
      ∗ (∃ f, on a3M c D1.set ((w1 a3M).view.write (Elt F) f (XA1 m (q c)) Finset.univ))
      ∗ (∃ f, on a5M c H1.set f)
      ∗ (∃ f, vpt (z2 a7M) (r c) f)
      ∗ (∃ f, vpt (z3 a7M) (r c) f)
      ∗ stk c (r c) (ds 6) (ds 13)
      ∗ stk c (r c) (ds 7) (ds 14))
    ⊢ iprop((ow c [14, 15] ∗ vpt a10M c (FA m c) ∗ (∃ f, on a3M c D1.set f) ∗ wt c (ds 6) ∗ wt c (ds 7) -∗ Q ⟨⟩)
      -∗ wp frame (wpE (defs₀ (F := F)) 𝒱₀ (c : Thread nD τ) none) Set.univ (run (k0_part7 (F := F)) c v9) Q) := by
  rw [k0_part7_eq_skeleton]
  unfold run k0_part7_skel
  simp only [semSignalWord, semWaitWord, Prog.lift, Prog.bind_op, Prog.bind_ret, Prog.pure_eq_ret, wp_deviceId]
  iintro ⟨#HE, Ho, H10, ⟨%f3, H3⟩, ⟨%f5, H5⟩, Hd1, Hd2, Hs1, Hs2⟩ Hk
  ihave #HA := (env_a m K c) $$ HE
  iapply (load_step c (M := a3M) (R := D1) (f := (w1 a3M).view.write (Elt F) f3 (XA1 m (q c)) Finset.univ) (acc_sub a3M D1 (Finset.Subset.refl _)) (rd_w1 a3M f3 (XA1 m (q c)))) $$ [H3]
  · iexact H3
  iintro H3
  iapply (load_step c (M := a10M) (R := H1) (f := FA m c) (acc_sub a10M H1 (Finset.subset_univ _)) rfl) $$ [H10]
  · iexact H10
  iintro H10
  iapply (load_step c (M := a5M) (R := H1) (f := f5) (acc_sub a5M H1 (Finset.Subset.refl _)) rfl) $$ [H5]
  · iexact H5
  iintro H5
  iapply (store_step c (M := a5M) (R := H1) (f := f5) (f' := SA2 m c) (acc_sub a5M H1 (Finset.Subset.refl _)) (sa2_h1 m c f5)) $$ [H5]
  · iexact H5
  iintro H5
  ihave H5 := (z23_at c a5M (SA2 m c)) $$ H5
  icases H5 with ⟨Hx1, Hx2⟩
  iapply (send_step m K c _ (r c) (dev13 c) (.inr rfl) (src := z2 a5M) (dst := z2 a7M) (ds 6) (ds 13) (by decide) (by decide) 12 (13 :: [14, 15]) rfl rfl rfl
    (Entails.of_eq rfl) (pay13 m c)) $$ [Hx1 Hd1 Ho Hs1]
  · isplitr
    · iexact HE
    isplitl [Hx1]
    · iexact Hx1
    isplitl [Hd1]
    · iexact Hd1
    isplitl [Ho]
    · iexact Ho
    iexact Hs1
  iintro ⟨Hw1, Ho⟩
  iapply (send_step m K c _ (r c) (dev14 c) (.inr rfl) (src := z3 a5M) (dst := z3 a7M) (ds 7) (ds 14) (by decide) (by decide) 13 [14, 15] rfl rfl rfl
    (Entails.of_eq rfl) (pay14 m c)) $$ [Hx2 Hd2 Ho Hs2]
  · isplitr
    · iexact HE
    isplitl [Hx2]
    · iexact Hx2
    isplitl [Hd2]
    · iexact Hd2
    isplitl [Ho]
    · iexact Ho
    iexact Hs2
  iintro ⟨Hw2, Ho⟩
  ihave H3e : iprop(∃ f, on a3M c D1.set f) $$ [H3]
  · iexists _; iexact H3
  rw [wp_ret]
  imodintro
  iapply Hk
  isplitl [Ho]
  · iexact Ho
  isplitl [H10]
  · iexact H10
  isplitl [H3e]
  · iexact H3e
  isplitl [Hw1]
  · iexact Hw1
  iexact Hw2

theorem part8 (v8 : BitVec 32) (Q : (Σ' (v224 : BitVec 32), BitVec 32) → sProp 𝕄) :
    iprop(Env m K c ∗ ow c [14, 15]
      ∗ wt c (ds 23)
      ∗ vpt a11M c (FB m c)
      ∗ (∃ f, on a6M c H1.set f)
      ∗ (∃ f, vpt (z2 a8M) (q c) f)
      ∗ (∃ f, vpt (z3 a8M) (q c) f)
      ∗ stk c (q c) (ds 20) (ds 27)
      ∗ stk c (q c) (ds 21) (ds 28))
    ⊢ iprop((∀ (a b : BitVec 32), ow c [] ∗ dn c (ds 23) ∗ (∃ f, on a4M c D1.set f) ∗ vpt a11M c (FB m c) ∗ wt c (ds 20) ∗ wt c (ds 21) -∗ Q ⟨a, b⟩)
      -∗ wp frame (wpE (defs₀ (F := F)) 𝒱₀ (c : Thread nD τ) none) Set.univ (run (k0_part8 (F := F)) c v8) Q) := by
  rw [k0_part8_eq_skeleton]
  unfold run k0_part8_skel
  simp only [semSignalWord, semWaitWord, Prog.lift, Prog.bind_op, Prog.bind_ret, Prog.pure_eq_ret, wp_deviceId]
  iintro ⟨#HE, Ho, Hw23, H11, ⟨%f6, H6⟩, Hd1, Hd2, Hs1, Hs2⟩ Hk
  ihave #HA := (env_a m K c) $$ HE
  iapply (wait_step m K c (dst := w1 a4M) (ds 23) (by decide) rfl [14, 15] (by decide)) $$ [Ho Hw23]
  · isplitr
    · iexact HA
    isplitl [Ho]
    · iexact Ho
    iexact Hw23
  iintro ⟨Ho, Hd23, Hp⟩
  ihave Hp := (cp23 m c) $$ Hp
  icases Hp with ⟨%f3, H3⟩
  iapply (load_step c (M := a4M) (R := D1) (f := (w1 a4M).view.write (Elt F) f3 (XB1 m (r c)) Finset.univ) (acc_sub a4M D1 (Finset.Subset.refl _)) (rd_w1 a4M f3 (XB1 m (r c)))) $$ [H3]
  · iexact H3
  iintro H3
  iapply (load_step c (M := a11M) (R := H1) (f := FB m c) (acc_sub a11M H1 (Finset.subset_univ _)) rfl) $$ [H11]
  · iexact H11
  iintro H11
  iapply (load_step c (M := a6M) (R := H1) (f := f6) (acc_sub a6M H1 (Finset.Subset.refl _)) rfl) $$ [H6]
  · iexact H6
  iintro H6
  iapply (store_step c (M := a6M) (R := H1) (f := f6) (f' := SB2 m c) (acc_sub a6M H1 (Finset.Subset.refl _)) (sb2_h1 m c f6)) $$ [H6]
  · iexact H6
  iintro H6
  ihave H6 := (z23_at c a6M (SB2 m c)) $$ H6
  icases H6 with ⟨Hx1, Hx2⟩
  iapply (send_step m K c _ (q c) (dev15 c) (.inl rfl) (src := z2 a6M) (dst := z2 a8M) (ds 20) (ds 27) (by decide) (by decide) 14 [15] rfl rfl rfl
    (Entails.of_eq rfl) (pay27 m c)) $$ [Hx1 Hd1 Ho Hs1]
  · isplitr
    · iexact HE
    isplitl [Hx1]
    · iexact Hx1
    isplitl [Hd1]
    · iexact Hd1
    isplitl [Ho]
    · iexact Ho
    iexact Hs1
  iintro ⟨Hw1, Ho⟩
  iapply (send_step m K c _ (q c) (dev16 c) (.inl rfl) (src := z3 a6M) (dst := z3 a8M) (ds 21) (ds 28) (by decide) (by decide) 15 [] rfl rfl rfl
    (Entails.of_eq rfl) (pay28 m c)) $$ [Hx2 Hd2 Ho Hs2]
  · isplitr
    · iexact HE
    isplitl [Hx2]
    · iexact Hx2
    isplitl [Hd2]
    · iexact Hd2
    isplitl [Ho]
    · iexact Ho
    iexact Hs2
  iintro ⟨Hw2, Ho⟩
  ihave H3e : iprop(∃ f, on a4M c D1.set f) $$ [H3]
  · iexists _; iexact H3
  rw [wp_ret]
  imodintro
  iapply Hk
  isplitl [Ho]
  · iexact Ho
  isplitl [Hd23]
  · iexact Hd23
  isplitl [H3e]
  · iexact H3e
  isplitl [H11]
  · iexact H11
  isplitl [Hw1]
  · iexact Hw1
  iexact Hw2

theorem part9 (v9 a b : BitVec 32) (Q : FVec F S512x256 .f32 → sProp 𝕄) :
    iprop(Env m K c ∗ ow c [] ∗ wt c (ds 10) ∗ wt c (ds 29) ∗ wt c (ds 24) ∗ (∃ f, on a3M c DD.set f))
    ⊢ iprop((ow c []
      ∗ dn c (ds 10)
      ∗ dn c (ds 29)
      ∗ dn c (ds 24)
      ∗ (∃ f, on a3M c D2.set f)
      ∗ (vpt a9M c (OWN m c) ∗ vpt (xOWN c) c (X m c))
      ∗ on a3M c DD.set (YA m c)
      ∗ (∃ f, on a4M c D2.set f) -∗ Q (k0_pay7 (V3 (XB2 m (r c))) ((a9M.access C1).read (Elt F) (OWN m c))))
      -∗ wp frame (wpE (defs₀ (F := F)) 𝒱₀ (c : Thread nD τ) none) Set.univ (run (k0_part9 (F := F)) c v9 a b) Q) := by
  rw [k0_part9_eq_skeleton]
  unfold run k0_part9_skel
  simp only [semSignalWord, semWaitWord, Prog.lift, Prog.bind_op, Prog.bind_ret, Prog.pure_eq_ret, wp_deviceId]
  iintro ⟨#HE, Ho, Hw10, Hw29, Hw24, ⟨%f3, H3⟩⟩ Hk
  ihave #HA := (env_a m K c) $$ HE
  iapply (wait_step m K c (dst := w2 a3M) (ds 10) (by decide) rfl [] (by decide)) $$ [Ho Hw10]
  · isplitr
    · iexact HA
    isplitl [Ho]
    · iexact Ho
    iexact Hw10
  iintro ⟨Ho, Hd10, Hp⟩
  ihave Hp := (cp10 m c) $$ Hp
  icases Hp with ⟨%f, Ha⟩
  iapply (wait_step m K c (dst := a9M) (ds 29) (by decide) rfl [] (by decide)) $$ [Ho Hw29]
  · isplitr
    · iexact HA
    isplitl [Ho]
    · iexact Ho
    iexact Hw29
  iintro ⟨Ho, Hd29, Hp⟩
  ihave Hp := (cp29 m c) $$ Hp
  icases Hp with ⟨H9, HxO⟩
  iapply (load_step c (M := a3M) (R := D2) (f := (w2 a3M).view.write (Elt F) f (XA2 m (q c)) Finset.univ) (acc_sub a3M D2 (Finset.Subset.refl _)) (rd_w2 a3M f (XA2 m (q c)))) $$ [Ha]
  · iexact Ha
  iintro Ha
  iapply (load_step c (M := a9M) (R := C0) (f := OWN m c) (acc_sub a9M C0 (Finset.subset_univ _)) rfl) $$ [H9]
  · iexact H9
  iintro H9
  iapply (load_step c (M := a3M) (R := DD) (f := f3) (acc_sub a3M DD (Finset.Subset.refl _)) rfl) $$ [H3]
  · iexact H3
  iintro H3
  iapply (store_step c (M := a3M) (R := DD) (f := f3) (f' := YA m c) (acc_sub a3M DD (Finset.Subset.refl _)) (ya_dd m c f3)) $$ [H3]
  · iexact H3
  iintro H3
  iapply (wait_step m K c (dst := w2 a4M) (ds 24) (by decide) rfl [] (by decide)) $$ [Ho Hw24]
  · isplitr
    · iexact HA
    isplitl [Ho]
    · iexact Ho
    iexact Hw24
  iintro ⟨Ho, Hd24, Hp⟩
  ihave Hp := (cp24 m c) $$ Hp
  icases Hp with ⟨%f4, Hb⟩
  iapply (load_step c (M := a4M) (R := D2) (f := (w2 a4M).view.write (Elt F) f4 (XB2 m (r c)) Finset.univ) (acc_sub a4M D2 (Finset.Subset.refl _)) (rd_w2 a4M f4 (XB2 m (r c)))) $$ [Hb]
  · iexact Hb
  iintro Hb
  iapply (load_step c (M := a9M) (R := C1) (f := OWN m c) (acc_sub a9M C1 (Finset.subset_univ _)) rfl) $$ [H9]
  · iexact H9
  iintro H9
  ihave Hae : iprop(∃ f, on a3M c D2.set f) $$ [Ha]
  · iexists _; iexact Ha
  ihave Hbe : iprop(∃ f, on a4M c D2.set f) $$ [Hb]
  · iexists _; iexact Hb
  rw [wp_ret]
  imodintro
  iapply Hk
  isplitl [Ho]
  · iexact Ho
  isplitl [Hd10]
  · iexact Hd10
  isplitl [Hd29]
  · iexact Hd29
  isplitl [Hd24]
  · iexact Hd24
  isplitl [Hae]
  · iexact Hae
  isplitl [H9 HxO]
  · isplitl [H9]
    · iexact H9
    iexact HxO
  isplitl [H3]
  · iexact H3
  iexact Hbe

end Cert.KernelIdeal.Mesh
-- ==== Proof.BodyC.lean ====
/- The kernel's body, parts 10 to 17: the normalised rows, block by block, and the waits that close the sends. -/
module

public import proofs.«01_k».proof.Proof.BodyB

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## What the result buffer receives -/

/-- What the vector loads read: a quarter of a device's own sums, of its partner's, a half of the weights. -/
def LA (R : Rect S2x512x256) : R.shape.Idx → Elt F .f32 := (a3M.access R).read (Elt F) (YA m c)
def LB (R : Rect S2x512x256) : R.shape.Idx → Elt F .f32 := (a4M.access R).read (Elt F) (YB m c)
def QA (R : Rect S512x256) : R.shape.Idx → Elt F .f32 := (a7M.access R).read (Elt F) (SA2 m (r c))
def QB (R : Rect S512x256) : R.shape.Idx → Elt F .f32 := (a8M.access R).read (Elt F) (SB2 m (q c))
def WG (R : Rect S1x512) : R.shape.Idx → Elt F .f32 := (a12M.access R).read (Elt F) (G m c)

/-- The eight blocks of the result: four groups of 128 rows, by column half. -/
def B00 : Vec F S128x256 .f32 := k0_pay13 (k0_pay9 (LA m c E0) (QA m c Q0)) (k0_pay10 (LB m c E0) (QB m c Q0)) (k0_pay11 (LA m c E0) (QA m c Q0)) (WG m c G0)
def B01 : Vec F S128x256 .f32 := k0_pay14 (k0_pay10 (LB m c E0) (QB m c Q0)) (k0_pay11 (LA m c E0) (QA m c Q0)) (WG m c G1)
def B10 : Vec F S128x256 .f32 := k0_pay18 (k0_pay15 (LA m c E1) (QA m c Q1)) (LB m c E1) (QB m c Q1) (WG m c G0)
def B11 : Vec F S128x256 .f32 := k0_pay19 (k0_pay15 (LA m c E1) (QA m c Q1)) (LB m c E1) (QB m c Q1) (WG m c G1)
def B20 : Vec F S128x256 .f32 := k0_pay24 (k0_pay20 (LA m c E2) (QA m c Q2)) (k0_pay22 (LA m c E2) (QA m c Q2) (LB m c E2) (QB m c Q2)) (WG m c G0)
def B21 : Vec F S128x256 .f32 := k0_pay25 (k0_pay21 (LB m c E2) (QB m c Q2)) (k0_pay22 (LA m c E2) (QA m c Q2) (LB m c E2) (QB m c Q2)) (WG m c G1)
def B30 : Vec F S128x256 .f32 := k0_pay29 (k0_pay26 (LA m c E3) (QA m c Q3)) (LB m c E3) (QB m c Q3) (WG m c G0)
def B31 : Vec F S128x256 .f32 := k0_pay30 (k0_pay26 (LA m c E3) (QA m c Q3)) (LB m c E3) (QB m c Q3) (WG m c G1)

/-- The result buffer after each pair of stores. -/
def O0 (f : Vec F S512x512 .f32) : Vec F S512x512 .f32 :=
  (a2M.access U01).write (Elt F) ((a2M.access U00).write (Elt F) f (B00 m c) Finset.univ) (B01 m c) Finset.univ
def O1 (f : Vec F S512x512 .f32) : Vec F S512x512 .f32 :=
  (a2M.access U11).write (Elt F) ((a2M.access U10).write (Elt F) f (B10 m c) Finset.univ) (B11 m c) Finset.univ
def O2 (f : Vec F S512x512 .f32) : Vec F S512x512 .f32 :=
  (a2M.access U21).write (Elt F) ((a2M.access U20).write (Elt F) f (B20 m c) Finset.univ) (B21 m c) Finset.univ
def O3 (f : Vec F S512x512 .f32) : Vec F S512x512 .f32 :=
  (a2M.access U31).write (Elt F) ((a2M.access U30).write (Elt F) f (B30 m c) Finset.univ) (B31 m c) Finset.univ

/-! ## The parts -/

theorem part10 (v8 v9 : BitVec 32) (Q : (Σ' (a : FVec F S128x256 .f32) (b : FVec F S128x256 .f32), FVec F S128x1 .f32) → sProp 𝕄) :
    iprop(Env m K c ∗ ow c [] ∗ (∃ f, on a4M c DD.set f) ∗ wt c (ds 32) ∗ wt c (ds 11) ∗ wt c (ds 25) ∗ on a3M c DD.set (YA m c))
    ⊢ iprop((ow c []
      ∗ dn c (ds 32)
      ∗ dn c (ds 11)
      ∗ dn c (ds 25)
      ∗ (vpt a12M c (G m c) ∗ vpt a1M c (G m c))
      ∗ on a4M c DD.set (YB m c)
      ∗ on a3M c DD.set (YA m c)
      ∗ on a7M c Q0.set (SA2 m (r c))
      ∗ on a8M c Q0.set (SB2 m (q c)) -∗ Q ⟨k0_pay9 (LA m c E0) (QA m c Q0), k0_pay10 (LB m c E0) (QB m c Q0), k0_pay11 (LA m c E0) (QA m c Q0)⟩)
      -∗ wp frame (wpE (defs₀ (F := F)) 𝒱₀ (c : Thread nD τ) none) Set.univ (run (k0_part10 (F := F)) v8 v9 (k0_pay7 (V3 (XB2 m (r c))) ((a9M.access C1).read (Elt F) (OWN m c)))) Q) := by
  rw [k0_part10_eq_skeleton]
  unfold run k0_part10_skel
  simp only [semSignalWord, semWaitWord, Prog.lift, Prog.bind_op, Prog.bind_ret, Prog.pure_eq_ret, wp_deviceId]
  iintro ⟨#HE, Ho, ⟨%f4, H4⟩, Hw32, Hw11, Hw25, H3⟩ Hk
  ihave #HA := (env_a m K c) $$ HE
  iapply (load_step c (M := a4M) (R := DD) (f := f4) (acc_sub a4M DD (Finset.Subset.refl _)) rfl) $$ [H4]
  · iexact H4
  iintro H4
  iapply (store_step c (M := a4M) (R := DD) (f := f4) (f' := YB m c) (acc_sub a4M DD (Finset.Subset.refl _)) (yb_dd m c f4)) $$ [H4]
  · iexact H4
  iintro H4
  iapply (wait_step m K c (dst := a12M) (ds 32) (by decide) rfl [] (by decide)) $$ [Ho Hw32]
  · isplitr
    · iexact HA
    isplitl [Ho]
    · iexact Ho
    iexact Hw32
  iintro ⟨Ho, Hd32, Hp⟩
  ihave Hp := (cp32 m c) $$ Hp
  icases Hp with ⟨H12, H1⟩
  iapply (wait_step m K c (dst := z0 a7M) (ds 11) (by decide) rfl [] (by decide)) $$ [Ho Hw11]
  · isplitr
    · iexact HA
    isplitl [Ho]
    · iexact Ho
    iexact Hw11
  iintro ⟨Ho, Hd11, Hp⟩
  ihave Hp := (cp11 m c) $$ Hp
  icases Hp with H7
  iapply (load_step c (M := a3M) (R := E0) (f := YA m c) (acc_sub a3M E0 (e_dd 0 (by decide) _)) (v := LA m c E0) rfl) $$ [H3]
  · iexact H3
  iintro H3
  iapply (load_step c (M := a7M) (R := Q0) (f := SA2 m (r c)) (acc_sub a7M Q0 (Finset.Subset.refl _)) (v := QA m c Q0) rfl) $$ [H7]
  · iexact H7
  iintro H7
  iapply (wait_step m K c (dst := z0 a8M) (ds 25) (by decide) rfl [] (by decide)) $$ [Ho Hw25]
  · isplitr
    · iexact HA
    isplitl [Ho]
    · iexact Ho
    iexact Hw25
  iintro ⟨Ho, Hd25, Hp⟩
  ihave Hp := (cp25 m c) $$ Hp
  icases Hp with H8
  iapply (load_step c (M := a4M) (R := E0) (f := YB m c) (acc_sub a4M E0 (e_dd 0 (by decide) _)) (v := LB m c E0) rfl) $$ [H4]
  · iexact H4
  iintro H4
  iapply (load_step c (M := a8M) (R := Q0) (f := SB2 m (q c)) (acc_sub a8M Q0 (Finset.Subset.refl _)) (v := QB m c Q0) rfl) $$ [H8]
  · iexact H8
  iintro H8
  rw [wp_ret]
  imodintro
  iapply Hk
  isplitl [Ho]
  · iexact Ho
  isplitl [Hd32]
  · iexact Hd32
  isplitl [Hd11]
  · iexact Hd11
  isplitl [Hd25]
  · iexact Hd25
  isplitl [H12 H1]
  · isplitl [H12]
    · iexact H12
    iexact H1
  isplitl [H4]
  · iexact H4
  isplitl [H3]
  · iexact H3
  isplitl [H7]
  · iexact H7
  iexact H8

theorem part11 (v9 : BitVec 32) (f : Vec F S512x512 .f32) (Q : FVec F S128x256 .f32 → sProp 𝕄) :
    iprop(Env m K c ∗ ow c [] ∗ wt c (ds 12) ∗ on a3M c DD.set (YA m c) ∗ vpt a12M c (G m c) ∗ vpt a2M c f)
    ⊢ iprop((ow c [] ∗ dn c (ds 12) ∗ on a3M c DD.set (YA m c) ∗ vpt a12M c (G m c) ∗ on a7M c Q1.set (SA2 m (r c)) ∗ vpt a2M c (O0 m c f) -∗ Q (k0_pay15 (LA m c E1) (QA m c Q1)))
      -∗ wp frame (wpE (defs₀ (F := F)) 𝒱₀ (c : Thread nD τ) none) Set.univ (run (k0_part11 (F := F)) v9 (k0_pay9 (LA m c E0) (QA m c Q0)) (k0_pay10 (LB m c E0) (QB m c Q0)) (k0_pay11 (LA m c E0) (QA m c Q0))) Q) := by
  rw [k0_part11_eq_skeleton]
  unfold run k0_part11_skel
  simp only [semSignalWord, semWaitWord, Prog.lift, Prog.bind_op, Prog.bind_ret, Prog.pure_eq_ret, wp_deviceId]
  iintro ⟨#HE, Ho, Hw12, H3, H12, H2⟩ Hk
  ihave #HA := (env_a m K c) $$ HE
  iapply (load_step c (M := a12M) (R := G0) (f := G m c) (acc_sub a12M G0 (Finset.subset_univ _)) (v := WG m c G0) rfl) $$ [H12]
  · iexact H12
  iintro H12
  iapply (load_step c (M := a2M) (R := U00) (f := f) (acc_sub a2M U00 (Finset.subset_univ _)) rfl) $$ [H2]
  · iexact H2
  iintro H2
  iapply (store_step c (M := a2M) (R := U00) (f := f) (f' := (a2M.access U00).write (Elt F) f (B00 m c) Finset.univ) (acc_sub a2M U00 (Finset.subset_univ _)) (fun _ _ => rfl)) $$ [H2]
  · iexact H2
  iintro H2
  iapply (load_step c (M := a12M) (R := G1) (f := G m c) (acc_sub a12M G1 (Finset.subset_univ _)) (v := WG m c G1) rfl) $$ [H12]
  · iexact H12
  iintro H12
  iapply (load_step c (M := a2M) (R := U01) (f := ((a2M.access U00).write (Elt F) f (B00 m c) Finset.univ)) (acc_sub a2M U01 (Finset.subset_univ _)) rfl) $$ [H2]
  · iexact H2
  iintro H2
  iapply (store_step c (M := a2M) (R := U01) (f := ((a2M.access U00).write (Elt F) f (B00 m c) Finset.univ)) (f' := O0 m c f) (acc_sub a2M U01 (Finset.subset_univ _)) (fun _ _ => rfl)) $$ [H2]
  · iexact H2
  iintro H2
  iapply (wait_step m K c (dst := z1 a7M) (ds 12) (by decide) rfl [] (by decide)) $$ [Ho Hw12]
  · isplitr
    · iexact HA
    isplitl [Ho]
    · iexact Ho
    iexact Hw12
  iintro ⟨Ho, Hd12, Hp⟩
  ihave Hp := (cp12 m c) $$ Hp
  icases Hp with H7
  iapply (load_step c (M := a3M) (R := E1) (f := YA m c) (acc_sub a3M E1 (e_dd 128 (by decide) _)) (v := LA m c E1) rfl) $$ [H3]
  · iexact H3
  iintro H3
  iapply (load_step c (M := a7M) (R := Q1) (f := SA2 m (r c)) (acc_sub a7M Q1 (Finset.Subset.refl _)) (v := QA m c Q1) rfl) $$ [H7]
  · iexact H7
  iintro H7
  rw [wp_ret]
  imodintro
  iapply Hk
  isplitl [Ho]
  · iexact Ho
  isplitl [Hd12]
  · iexact Hd12
  isplitl [H3]
  · iexact H3
  isplitl [H12]
  · iexact H12
  isplitl [H7]
  · iexact H7
  iexact H2

theorem part12 (v8 : BitVec 32) (f : Vec F S512x512 .f32) (Q : PUnit → sProp 𝕄) :
    iprop(Env m K c ∗ ow c [] ∗ wt c (ds 26) ∗ on a4M c DD.set (YB m c) ∗ vpt a12M c (G m c) ∗ vpt a2M c f)
    ⊢ iprop((ow c [] ∗ dn c (ds 26) ∗ on a4M c DD.set (YB m c) ∗ vpt a12M c (G m c) ∗ on a8M c Q1.set (SB2 m (q c)) ∗ vpt a2M c (O1 m c f) -∗ Q ⟨⟩)
      -∗ wp frame (wpE (defs₀ (F := F)) 𝒱₀ (c : Thread nD τ) none) Set.univ (run (k0_part12 (F := F)) v8 (k0_pay15 (LA m c E1) (QA m c Q1))) Q) := by
  rw [k0_part12_eq_skeleton]
  unfold run k0_part12_skel
  simp only [semSignalWord, semWaitWord, Prog.lift, Prog.bind_op, Prog.bind_ret, Prog.pure_eq_ret, wp_deviceId]
  iintro ⟨#HE, Ho, Hw26, H4, H12, H2⟩ Hk
  ihave #HA := (env_a m K c) $$ HE
  iapply (wait_step m K c (dst := z1 a8M) (ds 26) (by decide) rfl [] (by decide)) $$ [Ho Hw26]
  · isplitr
    · iexact HA
    isplitl [Ho]
    · iexact Ho
    iexact Hw26
  iintro ⟨Ho, Hd26, Hp⟩
  ihave Hp := (cp26 m c) $$ Hp
  icases Hp with H8
  iapply (load_step c (M := a4M) (R := E1) (f := YB m c) (acc_sub a4M E1 (e_dd 128 (by decide) _)) (v := LB m c E1) rfl) $$ [H4]
  · iexact H4
  iintro H4
  iapply (load_step c (M := a8M) (R := Q1) (f := SB2 m (q c)) (acc_sub a8M Q1 (Finset.Subset.refl _)) (v := QB m c Q1) rfl) $$ [H8]
  · iexact H8
  iintro H8
  iapply (load_step c (M := a12M) (R := G0) (f := G m c) (acc_sub a12M G0 (Finset.subset_univ _)) (v := WG m c G0) rfl) $$ [H12]
  · iexact H12
  iintro H12
  iapply (load_step c (M := a2M) (R := U10) (f := f) (acc_sub a2M U10 (Finset.subset_univ _)) rfl) $$ [H2]
  · iexact H2
  iintro H2
  iapply (store_step c (M := a2M) (R := U10) (f := f) (f' := (a2M.access U10).write (Elt F) f (B10 m c) Finset.univ) (acc_sub a2M U10 (Finset.subset_univ _)) (fun _ _ => rfl)) $$ [H2]
  · iexact H2
  iintro H2
  iapply (load_step c (M := a12M) (R := G1) (f := G m c) (acc_sub a12M G1 (Finset.subset_univ _)) (v := WG m c G1) rfl) $$ [H12]
  · iexact H12
  iintro H12
  iapply (load_step c (M := a2M) (R := U11) (f := ((a2M.access U10).write (Elt F) f (B10 m c) Finset.univ)) (acc_sub a2M U11 (Finset.subset_univ _)) rfl) $$ [H2]
  · iexact H2
  iintro H2
  iapply (store_step c (M := a2M) (R := U11) (f := ((a2M.access U10).write (Elt F) f (B10 m c) Finset.univ)) (f' := O1 m c f) (acc_sub a2M U11 (Finset.subset_univ _)) (fun _ _ => rfl)) $$ [H2]
  · iexact H2
  iintro H2
  rw [wp_ret]
  imodintro
  iapply Hk
  isplitl [Ho]
  · iexact Ho
  isplitl [Hd26]
  · iexact Hd26
  isplitl [H4]
  · iexact H4
  isplitl [H12]
  · iexact H12
  isplitl [H8]
  · iexact H8
  iexact H2

theorem part13 (v8 v9 : BitVec 32) (Q : (Σ' (a : FVec F S128x256 .f32) (b : FVec F S128x256 .f32), FVec F S128x1 .f32) → sProp 𝕄) :
    iprop(Env m K c ∗ ow c [] ∗ wt c (ds 13) ∗ wt c (ds 27) ∗ on a3M c DD.set (YA m c) ∗ on a4M c DD.set (YB m c))
    ⊢ iprop((ow c [] ∗ dn c (ds 13) ∗ dn c (ds 27) ∗ on a3M c DD.set (YA m c) ∗ on a4M c DD.set (YB m c) ∗ on a7M c Q2.set (SA2 m (r c)) ∗ on a8M c Q2.set (SB2 m (q c)) -∗ Q ⟨k0_pay20 (LA m c E2) (QA m c Q2), k0_pay21 (LB m c E2) (QB m c Q2), k0_pay22 (LA m c E2) (QA m c Q2) (LB m c E2) (QB m c Q2)⟩)
      -∗ wp frame (wpE (defs₀ (F := F)) 𝒱₀ (c : Thread nD τ) none) Set.univ (run (k0_part13 (F := F)) v8 v9) Q) := by
  rw [k0_part13_eq_skeleton]
  unfold run k0_part13_skel
  simp only [semSignalWord, semWaitWord, Prog.lift, Prog.bind_op, Prog.bind_ret, Prog.pure_eq_ret, wp_deviceId]
  iintro ⟨#HE, Ho, Hw13, Hw27, H3, H4⟩ Hk
  ihave #HA := (env_a m K c) $$ HE
  iapply (wait_step m K c (dst := z2 a7M) (ds 13) (by decide) rfl [] (by decide)) $$ [Ho Hw13]
  · isplitr
    · iexact HA
    isplitl [Ho]
    · iexact Ho
    iexact Hw13
  iintro ⟨Ho, Hd13, Hp⟩
  ihave Hp := (cp13 m c) $$ Hp
  icases Hp with H7
  iapply (load_step c (M := a3M) (R := E2) (f := YA m c) (acc_sub a3M E2 (e_dd 256 (by decide) _)) (v := LA m c E2) rfl) $$ [H3]
  · iexact H3
  iintro H3
  iapply (load_step c (M := a7M) (R := Q2) (f := SA2 m (r c)) (acc_sub a7M Q2 (Finset.Subset.refl _)) (v := QA m c Q2) rfl) $$ [H7]
  · iexact H7
  iintro H7
  iapply (wait_step m K c (dst := z2 a8M) (ds 27) (by decide) rfl [] (by decide)) $$ [Ho Hw27]
  · isplitr
    · iexact HA
    isplitl [Ho]
    · iexact Ho
    iexact Hw27
  iintro ⟨Ho, Hd27, Hp⟩
  ihave Hp := (cp27 m c) $$ Hp
  icases Hp with H8
  iapply (load_step c (M := a4M) (R := E2) (f := YB m c) (acc_sub a4M E2 (e_dd 256 (by decide) _)) (v := LB m c E2) rfl) $$ [H4]
  · iexact H4
  iintro H4
  iapply (load_step c (M := a8M) (R := Q2) (f := SB2 m (q c)) (acc_sub a8M Q2 (Finset.Subset.refl _)) (v := QB m c Q2) rfl) $$ [H8]
  · iexact H8
  iintro H8
  rw [wp_ret]
  imodintro
  iapply Hk
  isplitl [Ho]
  · iexact Ho
  isplitl [Hd13]
  · iexact Hd13
  isplitl [Hd27]
  · iexact Hd27
  isplitl [H3]
  · iexact H3
  isplitl [H4]
  · iexact H4
  isplitl [H7]
  · iexact H7
  iexact H8

theorem part14 (v8 v9 : BitVec 32) (f : Vec F S512x512 .f32) (Q : FVec F S128x256 .f32 → sProp 𝕄) :
    iprop(Env m K c ∗ ow c [] ∗ wt c (ds 14) ∗ on a3M c DD.set (YA m c) ∗ vpt a12M c (G m c) ∗ vpt a2M c f)
    ⊢ iprop((ow c [] ∗ dn c (ds 14) ∗ on a3M c DD.set (YA m c) ∗ vpt a12M c (G m c) ∗ on a7M c Q3.set (SA2 m (r c)) ∗ vpt a2M c (O2 m c f) -∗ Q (k0_pay26 (LA m c E3) (QA m c Q3)))
      -∗ wp frame (wpE (defs₀ (F := F)) 𝒱₀ (c : Thread nD τ) none) Set.univ (run (k0_part14 (F := F)) v8 v9 (k0_pay20 (LA m c E2) (QA m c Q2)) (k0_pay21 (LB m c E2) (QB m c Q2)) (k0_pay22 (LA m c E2) (QA m c Q2) (LB m c E2) (QB m c Q2))) Q) := by
  rw [k0_part14_eq_skeleton]
  unfold run k0_part14_skel
  simp only [semSignalWord, semWaitWord, Prog.lift, Prog.bind_op, Prog.bind_ret, Prog.pure_eq_ret, wp_deviceId]
  iintro ⟨#HE, Ho, Hw14, H3, H12, H2⟩ Hk
  ihave #HA := (env_a m K c) $$ HE
  iapply (load_step c (M := a12M) (R := G0) (f := G m c) (acc_sub a12M G0 (Finset.subset_univ _)) (v := WG m c G0) rfl) $$ [H12]
  · iexact H12
  iintro H12
  iapply (load_step c (M := a2M) (R := U20) (f := f) (acc_sub a2M U20 (Finset.subset_univ _)) rfl) $$ [H2]
  · iexact H2
  iintro H2
  iapply (store_step c (M := a2M) (R := U20) (f := f) (f' := (a2M.access U20).write (Elt F) f (B20 m c) Finset.univ) (acc_sub a2M U20 (Finset.subset_univ _)) (fun _ _ => rfl)) $$ [H2]
  · iexact H2
  iintro H2
  iapply (load_step c (M := a12M) (R := G1) (f := G m c) (acc_sub a12M G1 (Finset.subset_univ _)) (v := WG m c G1) rfl) $$ [H12]
  · iexact H12
  iintro H12
  iapply (load_step c (M := a2M) (R := U21) (f := ((a2M.access U20).write (Elt F) f (B20 m c) Finset.univ)) (acc_sub a2M U21 (Finset.subset_univ _)) rfl) $$ [H2]
  · iexact H2
  iintro H2
  iapply (store_step c (M := a2M) (R := U21) (f := ((a2M.access U20).write (Elt F) f (B20 m c) Finset.univ)) (f' := O2 m c f) (acc_sub a2M U21 (Finset.subset_univ _)) (fun _ _ => rfl)) $$ [H2]
  · iexact H2
  iintro H2
  iapply (wait_step m K c (dst := z3 a7M) (ds 14) (by decide) rfl [] (by decide)) $$ [Ho Hw14]
  · isplitr
    · iexact HA
    isplitl [Ho]
    · iexact Ho
    iexact Hw14
  iintro ⟨Ho, Hd14, Hp⟩
  ihave Hp := (cp14 m c) $$ Hp
  icases Hp with H7
  iapply (load_step c (M := a3M) (R := E3) (f := YA m c) (acc_sub a3M E3 (e_dd 384 (by decide) _)) (v := LA m c E3) rfl) $$ [H3]
  · iexact H3
  iintro H3
  iapply (load_step c (M := a7M) (R := Q3) (f := SA2 m (r c)) (acc_sub a7M Q3 (Finset.Subset.refl _)) (v := QA m c Q3) rfl) $$ [H7]
  · iexact H7
  iintro H7
  rw [wp_ret]
  imodintro
  iapply Hk
  isplitl [Ho]
  · iexact Ho
  isplitl [Hd14]
  · iexact Hd14
  isplitl [H3]
  · iexact H3
  isplitl [H12]
  · iexact H12
  isplitl [H7]
  · iexact H7
  iexact H2

theorem part15 (f : Vec F S512x512 .f32) (Q : PUnit → sProp 𝕄) :
    iprop(Env m K c ∗ ow c [] ∗ wt c (ds 28) ∗ on a4M c DD.set (YB m c) ∗ vpt a12M c (G m c) ∗ vpt a2M c f)
    ⊢ iprop((ow c [] ∗ dn c (ds 28) ∗ on a4M c DD.set (YB m c) ∗ vpt a12M c (G m c) ∗ on a8M c Q3.set (SB2 m (q c)) ∗ vpt a2M c (O3 m c f) -∗ Q ⟨⟩)
      -∗ wp frame (wpE (defs₀ (F := F)) 𝒱₀ (c : Thread nD τ) none) Set.univ (run (k0_part15 (F := F)) c (k0_pay26 (LA m c E3) (QA m c Q3))) Q) := by
  rw [k0_part15_eq_skeleton]
  unfold run k0_part15_skel
  simp only [semSignalWord, semWaitWord, Prog.lift, Prog.bind_op, Prog.bind_ret, Prog.pure_eq_ret, wp_deviceId]
  iintro ⟨#HE, Ho, Hw28, H4, H12, H2⟩ Hk
  ihave #HA := (env_a m K c) $$ HE
  iapply (wait_step m K c (dst := z3 a8M) (ds 28) (by decide) rfl [] (by decide)) $$ [Ho Hw28]
  · isplitr
    · iexact HA
    isplitl [Ho]
    · iexact Ho
    iexact Hw28
  iintro ⟨Ho, Hd28, Hp⟩
  ihave Hp := (cp28 m c) $$ Hp
  icases Hp with H8
  iapply (load_step c (M := a4M) (R := E3) (f := YB m c) (acc_sub a4M E3 (e_dd 384 (by decide) _)) (v := LB m c E3) rfl) $$ [H4]
  · iexact H4
  iintro H4
  iapply (load_step c (M := a8M) (R := Q3) (f := SB2 m (q c)) (acc_sub a8M Q3 (Finset.Subset.refl _)) (v := QB m c Q3) rfl) $$ [H8]
  · iexact H8
  iintro H8
  iapply (load_step c (M := a12M) (R := G0) (f := G m c) (acc_sub a12M G0 (Finset.subset_univ _)) (v := WG m c G0) rfl) $$ [H12]
  · iexact H12
  iintro H12
  iapply (load_step c (M := a2M) (R := U30) (f := f) (acc_sub a2M U30 (Finset.subset_univ _)) rfl) $$ [H2]
  · iexact H2
  iintro H2
  iapply (store_step c (M := a2M) (R := U30) (f := f) (f' := (a2M.access U30).write (Elt F) f (B30 m c) Finset.univ) (acc_sub a2M U30 (Finset.subset_univ _)) (fun _ _ => rfl)) $$ [H2]
  · iexact H2
  iintro H2
  iapply (load_step c (M := a12M) (R := G1) (f := G m c) (acc_sub a12M G1 (Finset.subset_univ _)) (v := WG m c G1) rfl) $$ [H12]
  · iexact H12
  iintro H12
  iapply (load_step c (M := a2M) (R := U31) (f := ((a2M.access U30).write (Elt F) f (B30 m c) Finset.univ)) (acc_sub a2M U31 (Finset.subset_univ _)) rfl) $$ [H2]
  · iexact H2
  iintro H2
  iapply (store_step c (M := a2M) (R := U31) (f := ((a2M.access U30).write (Elt F) f (B30 m c) Finset.univ)) (f' := O3 m c f) (acc_sub a2M U31 (Finset.subset_univ _)) (fun _ _ => rfl)) $$ [H2]
  · iexact H2
  iintro H2
  rw [wp_ret]
  imodintro
  iapply Hk
  isplitl [Ho]
  · iexact Ho
  isplitl [Hd28]
  · iexact Hd28
  isplitl [H4]
  · iexact H4
  isplitl [H12]
  · iexact H12
  isplitl [H8]
  · iexact H8
  iexact H2

theorem part16  (Q : PUnit → sProp 𝕄) :
    iprop(Env m K c ∗ ow c [] ∗ wt c (ds 1) ∗ wt c (ds 2) ∗ wt c (ds 3) ∗ wt c (ds 15) ∗ wt c (ds 16))
    ⊢ iprop((ow c []
      ∗ dn c (ds 1)
      ∗ dn c (ds 2)
      ∗ dn c (ds 3)
      ∗ dn c (ds 15)
      ∗ dn c (ds 16)
      ∗ vpt (xA0 c) c (X m c)
      ∗ vpt (xA1 c) c (X m c)
      ∗ vpt (xA2 c) c (X m c)
      ∗ vpt (xB0 c) c (X m c)
      ∗ vpt (xB1 c) c (X m c) -∗ Q ⟨⟩)
      -∗ wp frame (wpE (defs₀ (F := F)) 𝒱₀ (c : Thread nD τ) none) Set.univ (run (k0_part16 (F := F)) c) Q) := by
  rw [k0_part16_eq_skeleton]
  unfold run k0_part16_skel
  simp only [semSignalWord, semWaitWord, Prog.lift, Prog.bind_op, Prog.bind_ret, Prog.pure_eq_ret, wp_deviceId]
  iintro ⟨#HE, Ho, Hw1, Hw2, Hw3, Hw15, Hw16⟩ Hk
  ihave #HA := (env_a m K c) $$ HE
  iapply (wait_step m K c (dst := xA0 c) (ds 1) (by decide) rfl [] (by decide)) $$ [Ho Hw1]
  · isplitr
    · iexact HA
    isplitl [Ho]
    · iexact Ho
    iexact Hw1
  iintro ⟨Ho, Hd1, Hp⟩
  ihave Hp := (cp1 m c) $$ Hp
  icases Hp with Hx1
  iapply (wait_step m K c (dst := xA1 c) (ds 2) (by decide) rfl [] (by decide)) $$ [Ho Hw2]
  · isplitr
    · iexact HA
    isplitl [Ho]
    · iexact Ho
    iexact Hw2
  iintro ⟨Ho, Hd2, Hp⟩
  ihave Hp := (cp2 m c) $$ Hp
  icases Hp with Hx2
  iapply (wait_step m K c (dst := xA2 c) (ds 3) (by decide) rfl [] (by decide)) $$ [Ho Hw3]
  · isplitr
    · iexact HA
    isplitl [Ho]
    · iexact Ho
    iexact Hw3
  iintro ⟨Ho, Hd3, Hp⟩
  ihave Hp := (cp3 m c) $$ Hp
  icases Hp with Hx3
  iapply (wait_step m K c (dst := xB0 c) (ds 15) (by decide) rfl [] (by decide)) $$ [Ho Hw15]
  · isplitr
    · iexact HA
    isplitl [Ho]
    · iexact Ho
    iexact Hw15
  iintro ⟨Ho, Hd15, Hp⟩
  ihave Hp := (cp15 m c) $$ Hp
  icases Hp with Hx15
  iapply (wait_step m K c (dst := xB1 c) (ds 16) (by decide) rfl [] (by decide)) $$ [Ho Hw16]
  · isplitr
    · iexact HA
    isplitl [Ho]
    · iexact Ho
    iexact Hw16
  iintro ⟨Ho, Hd16, Hp⟩
  ihave Hp := (cp16 m c) $$ Hp
  icases Hp with Hx16
  rw [wp_ret]
  imodintro
  iapply Hk
  isplitl [Ho]
  · iexact Ho
  isplitl [Hd1]
  · iexact Hd1
  isplitl [Hd2]
  · iexact Hd2
  isplitl [Hd3]
  · iexact Hd3
  isplitl [Hd15]
  · iexact Hd15
  isplitl [Hd16]
  · iexact Hd16
  isplitl [Hx1]
  · iexact Hx1
  isplitl [Hx2]
  · iexact Hx2
  isplitl [Hx3]
  · iexact Hx3
  isplitl [Hx15]
  · iexact Hx15
  iexact Hx16

theorem part17  (Q : PUnit → sProp 𝕄) :
    iprop(Env m K c ∗ ow c [] ∗ wt c (ds 17) ∗ wt c (ds 4) ∗ wt c (ds 5) ∗ wt c (ds 6) ∗ wt c (ds 7))
    ⊢ iprop((ow c []
      ∗ dn c (ds 17)
      ∗ dn c (ds 4)
      ∗ dn c (ds 5)
      ∗ dn c (ds 6)
      ∗ dn c (ds 7)
      ∗ vpt (xB2 c) c (X m c)
      ∗ vpt (z0 a5M) c (SA2 m c)
      ∗ vpt (z1 a5M) c (SA2 m c)
      ∗ vpt (z2 a5M) c (SA2 m c)
      ∗ vpt (z3 a5M) c (SA2 m c) -∗ Q ⟨⟩)
      -∗ wp frame (wpE (defs₀ (F := F)) 𝒱₀ (c : Thread nD τ) none) Set.univ (run (k0_part17 (F := F)) c) Q) := by
  rw [k0_part17_eq_skeleton]
  unfold run k0_part17_skel
  simp only [semSignalWord, semWaitWord, Prog.lift, Prog.bind_op, Prog.bind_ret, Prog.pure_eq_ret, wp_deviceId]
  iintro ⟨#HE, Ho, Hw17, Hw4, Hw5, Hw6, Hw7⟩ Hk
  ihave #HA := (env_a m K c) $$ HE
  iapply (wait_step m K c (dst := xB2 c) (ds 17) (by decide) rfl [] (by decide)) $$ [Ho Hw17]
  · isplitr
    · iexact HA
    isplitl [Ho]
    · iexact Ho
    iexact Hw17
  iintro ⟨Ho, Hd17, Hp⟩
  ihave Hp := (cp17 m c) $$ Hp
  icases Hp with Hx17
  iapply (wait_step m K c (dst := z0 a5M) (ds 4) (by decide) rfl [] (by decide)) $$ [Ho Hw4]
  · isplitr
    · iexact HA
    isplitl [Ho]
    · iexact Ho
    iexact Hw4
  iintro ⟨Ho, Hd4, Hp⟩
  ihave Hp := (cp4 m c) $$ Hp
  icases Hp with Hx4
  iapply (wait_step m K c (dst := z1 a5M) (ds 5) (by decide) rfl [] (by decide)) $$ [Ho Hw5]
  · isplitr
    · iexact HA
    isplitl [Ho]
    · iexact Ho
    iexact Hw5
  iintro ⟨Ho, Hd5, Hp⟩
  ihave Hp := (cp5 m c) $$ Hp
  icases Hp with Hx5
  iapply (wait_step m K c (dst := z2 a5M) (ds 6) (by decide) rfl [] (by decide)) $$ [Ho Hw6]
  · isplitr
    · iexact HA
    isplitl [Ho]
    · iexact Ho
    iexact Hw6
  iintro ⟨Ho, Hd6, Hp⟩
  ihave Hp := (cp6 m c) $$ Hp
  icases Hp with Hx6
  iapply (wait_step m K c (dst := z3 a5M) (ds 7) (by decide) rfl [] (by decide)) $$ [Ho Hw7]
  · isplitr
    · iexact HA
    isplitl [Ho]
    · iexact Ho
    iexact Hw7
  iintro ⟨Ho, Hd7, Hp⟩
  ihave Hp := (cp7 m c) $$ Hp
  icases Hp with Hx7
  rw [wp_ret]
  imodintro
  iapply Hk
  isplitl [Ho]
  · iexact Ho
  isplitl [Hd17]
  · iexact Hd17
  isplitl [Hd4]
  · iexact Hd4
  isplitl [Hd5]
  · iexact Hd5
  isplitl [Hd6]
  · iexact Hd6
  isplitl [Hd7]
  · iexact Hd7
  isplitl [Hx17]
  · iexact Hx17
  isplitl [Hx4]
  · iexact Hx4
  isplitl [Hx5]
  · iexact Hx5
  isplitl [Hx6]
  · iexact Hx6
  iexact Hx7

end Cert.KernelIdeal.Mesh
-- ==== Proof.BodyD.lean ====
/- The kernel's body as a whole: its parts in order. -/
module

public import proofs.«01_k».proof.Proof.BodyC

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## Putting the cut buffers together again -/

theorem dd_all : (Finset.univ : Finset S2x512x256.Idx) = DD.set ∪ D2.set := by rw [dd_eq]; exact d_all
theorem ex_dd (M : Memref sig .tc .vmem S2x512x256 .f32) :
    (iprop((∃ f, on (F := F) M c D0.set f) ∗ (∃ f, on M c D1.set f)) : sProp 𝕄) ⊢ iprop(∃ f, on M c DD.set f) := by
  rw [dd_eq]; exact on_join M c d_disj
theorem ex_whole (M : Memref sig .tc .vmem S2x512x256 .f32) (f : Buf (Elt F) (M.view.loc (c : Thread nD τ))) :
    (iprop(on M c DD.set f ∗ (∃ g, on M c D2.set g)) : sProp 𝕄) ⊢ iprop(∃ f, vpt M c f) := by
  rw [ex_all c M dd_all]
  iintro ⟨H1, H2⟩
  iapply (on_join M c dd_disj)
  isplitl [H1]
  · iexists f; iexact H1
  · iexact H2
theorem ex_four (M : Memref sig .tc .vmem S512x256 .f32) (f : Buf (Elt F) (M.view.loc (c : Thread nD τ))) :
    (iprop(vpt (z0 M) c f ∗ vpt (z1 M) c f ∗ vpt (z2 M) c f ∗ vpt (z3 M) c f) : sProp 𝕄) ⊢ iprop(∃ f, vpt M c f) := by
  iintro ⟨H0, H1, H2, H3⟩
  iapply (ex_z c M).2
  isplitl [H0]; · iexists f; iexact H0
  isplitl [H1]; · iexists f; iexact H1
  isplitl [H2]; · iexists f; iexact H2
  iexists f; iexact H3
theorem ex_four_on (M : Memref sig .tc .vmem S512x256 .f32) (f : Buf (Elt F) (M.view.loc (c : Thread nD τ))) :
    (iprop(on M c Q0.set f ∗ on M c Q1.set f ∗ on M c Q2.set f ∗ on M c Q3.set f) : sProp 𝕄) ⊢ iprop(∃ f, vpt M c f) := by
  rw [← vpt_slice M c Q0 (fun _ => rfl) f, ← vpt_slice M c Q1 (fun _ => rfl) f, ← vpt_slice M c Q2 (fun _ => rfl) f, ← vpt_slice M c Q3 (fun _ => rfl) f]
  exact ex_four c M f

/-- The partial sums, whole and in slices. -/
theorem x_cut : vpt a0M c (X m c) ⊣⊢ iprop((vpt (xOWN c) c (X m c) ∗ vpt (xFA c) c (X m c) ∗ vpt (xFB c) c (X m c)
      ∗ vpt (xA0 c) c (X m c) ∗ vpt (xA1 c) c (X m c) ∗ vpt (xA2 c) c (X m c)
      ∗ vpt (xB0 c) c (X m c) ∗ vpt (xB1 c) c (X m c) ∗ vpt (xB2 c) c (X m c)) ∗ on a0M c (xRest c) (X m c)) := by
  have h := x_parts c (X m c)
  rw [x_list] at h
  exact h

/-- What the result buffer holds at the end. -/
def OUT (f : Vec F S512x512 .f32) : Vec F S512x512 .f32 := O3 m c (O2 m c (O1 m c (O0 m c f)))

/-! ## What the body starts from, and what it leaves -/

/-- The kernel's landing buffers and its other scratch, at whatever they hold. -/
def scratch : sProp 𝕄 := iprop((∃ f, vpt a3M c f) ∗ (∃ f, vpt a4M c f) ∗ (∃ f, vpt a5M c f) ∗ (∃ f, vpt a6M c f) ∗ (∃ f, vpt a7M c f)
  ∗ (∃ f, vpt a8M c f) ∗ (∃ f, vpt a9M c f) ∗ (∃ f, vpt a10M c f) ∗ (∃ f, vpt a11M c f) ∗ (∃ f, vpt a12M c f))

/-- The right to copy and to send, on every semaphore. -/
def sendRights : sProp 𝕄 := iprop(lt c (ds 29) ∗ lt c (ds 30) ∗ lt c (ds 31) ∗ lt c (ds 32)
  ∗ stk c (q c) (ds 1) (ds 8) ∗ stk c (q c) (ds 2) (ds 9) ∗ stk c (q c) (ds 3) (ds 10) ∗ stk c (r c) (ds 4) (ds 11) ∗ stk c (r c) (ds 5) (ds 12) ∗ stk c (r c) (ds 6) (ds 13) ∗ stk c (r c) (ds 7) (ds 14) ∗ stk c (r c) (ds 15) (ds 22) ∗ stk c (r c) (ds 16) (ds 23) ∗ stk c (r c) (ds 17) (ds 24) ∗ stk c (q c) (ds 18) (ds 25) ∗ stk c (q c) (ds 19) (ds 26) ∗ stk c (q c) (ds 20) (ds 27) ∗ stk c (q c) (ds 21) (ds 28))
/-- The right to wait for every landing. -/
def waitRights : sProp 𝕄 := iprop(wt c (ds 8) ∗ wt c (ds 9) ∗ wt c (ds 10) ∗ wt c (ds 11) ∗ wt c (ds 12) ∗ wt c (ds 13) ∗ wt c (ds 14) ∗ wt c (ds 22) ∗ wt c (ds 23) ∗ wt c (ds 24) ∗ wt c (ds 25) ∗ wt c (ds 26) ∗ wt c (ds 27) ∗ wt c (ds 28))
/-- Every wait done. -/
def allDone : sProp 𝕄 := iprop(dn c (ds 1) ∗ dn c (ds 2) ∗ dn c (ds 3) ∗ dn c (ds 4) ∗ dn c (ds 5) ∗ dn c (ds 6) ∗ dn c (ds 7) ∗ dn c (ds 8) ∗ dn c (ds 9) ∗ dn c (ds 10) ∗ dn c (ds 11) ∗ dn c (ds 12) ∗ dn c (ds 13) ∗ dn c (ds 14) ∗ dn c (ds 15) ∗ dn c (ds 16) ∗ dn c (ds 17) ∗ dn c (ds 18) ∗ dn c (ds 19) ∗ dn c (ds 20) ∗ dn c (ds 21) ∗ dn c (ds 22) ∗ dn c (ds 23) ∗ dn c (ds 24) ∗ dn c (ds 25) ∗ dn c (ds 26) ∗ dn c (ds 27) ∗ dn c (ds 28) ∗ dn c (ds 29) ∗ dn c (ds 30) ∗ dn c (ds 31) ∗ dn c (ds 32))
/-- The rights on the entry barrier. -/
def barRights : sProp 𝕄 := iprop((dutyTok ER (barCell (lft c)) 0 true ∗ dutyTok ER (barCell (rgt c)) 0 false)
  ∗ cred (tallyAt (barCell c) () 2) ∗ atPos ER (barCell c) 0 ∅ 0)

abbrev allDebts : List (Fin 16) := [0, 1, 2, 3, 4, 5, 6, 7, 8, 9, 10, 11, 12, 13, 14, 15]

theorem enva_rch : EnvA m K c ⊢ rch c := by
  unfold EnvA
  iintro ⟨-, -, -, H⟩
  iexact H

theorem body_run (f : Vec F S512x512 .f32) (Q : PUnit → sProp 𝕄) :
    iprop(EnvA m K c ∗ ow c allDebts ∗ barRights c ∗ sendRights c ∗ waitRights c
      ∗ vpt a0M c (X m c) ∗ vpt a1M c (G m c) ∗ vpt a2M c f ∗ scratch c)
    ⊢ iprop((ow c [] ∗ atPos ER (barCell c) 1 ∅ 0 ∗ allDone c
          ∗ vpt a0M c (X m c) ∗ vpt a1M c (G m c) ∗ vpt a2M c (OUT m c f) ∗ scratch c -∗ Q ⟨⟩)
      -∗ wp frame (wpE (defs₀ (F := F)) 𝒱₀ (c : Thread nD τ) none) Set.univ (run (cc0_body (F := F))) Q) := by
  rw [cc0_body_eq_skeleton]
  unfold run cc0_body_skel
  rw [k0_part18_eq_skeleton]
  unfold k0_part18_skel sendRights waitRights barRights scratch
  simp only [Prog.lift, Prog.bind_op, Prog.bind_ret, Prog.pure_eq_ret, wp_bind]
  iintro ⟨#HA, Ho, ⟨⟨Hbl, Hbr⟩, Hbc, Hba⟩, ⟨Ht29, Ht30, Ht31, Ht32, Hs1, Hs2, Hs3, Hs4, Hs5, Hs6, Hs7, Hs15, Hs16, Hs17, Hs18, Hs19, Hs20, Hs21⟩, ⟨Hw8, Hw9, Hw10, Hw11, Hw12, Hw13, Hw14, Hw22, Hw23, Hw24, Hw25, Hw26, Hw27, Hw28⟩, Hx, Hg, H2, ⟨H3, H4, H5, H6, H7, H8, H9, H10, H11, H12⟩⟩ Hk
  ihave Hx := (x_cut m c).1 $$ Hx
  icases Hx with ⟨⟨HxO, HxFA, HxFB, HxA0, HxA1, HxA2, HxB0, HxB1, HxB2⟩, HxR⟩
  ihave #Hrc := (enva_rch m K c) $$ HA
  ihave Hgive := (give_make c) $$ [H3 H4 H7 H8]
  · isplitl [H3]
    · iexact H3
    isplitl [H4]
    · iexact H4
    isplitl [H7]
    · iexact H7
    isplitl [H8]
    · iexact H8
    iexact Hrc
  icases Hgive with ⟨Hgl, Hgr⟩
  ihave H5 := (ex_h c a5M).1 $$ H5
  icases H5 with ⟨H50, H51⟩
  ihave H6 := (ex_h c a6M).1 $$ H6
  icases H6 with ⟨H60, H61⟩
  iapply (part1 m K c [1, 2, 3, 4, 5, 6, 7, 8, 9, 10, 11, 12, 13, 14, 15] _) $$ [Ho Hbl Hgl HxFA H10 Ht30 HxFB H11 Ht31 HxO H9 Ht29 Hg H12 Ht32]
  · isplitr
    · iexact HA
    isplitl [Ho]
    · iexact Ho
    isplitl [Hbl]
    · iexact Hbl
    isplitl [Hgl]
    · iexact Hgl
    isplitl [HxFA H10 Ht30]
    · isplitl [HxFA]
      · iexact HxFA
      isplitl [H10]
      · iexact H10
      iexact Ht30
    isplitl [HxFB H11 Ht31]
    · isplitl [HxFB]
      · iexact HxFB
      isplitl [H11]
      · iexact H11
      iexact Ht31
    isplitl [HxO H9 Ht29]
    · isplitl [HxO]
      · iexact HxO
      isplitl [H9]
      · iexact H9
      iexact Ht29
    isplitl [Hg]
    · iexact Hg
    isplitl [H12]
    · iexact H12
    iexact Ht32
  iintro %a %b %e ⟨Ho, Hw30, Hw31, Hw29, Hw32⟩
  dsimp only
  iapply (part2 m K c a b e [3, 4, 5, 6, 7, 8, 9, 10, 11, 12, 13, 14, 15] (by decide) _) $$ [Ho Hbr Hgr Hbc Hba HxA0 Hs1]
  · isplitr
    · iexact HA
    isplitl [Ho]
    · iexact Ho
    isplitl [Hbr]
    · iexact Hbr
    isplitl [Hgr]
    · iexact Hgr
    isplitl [Hbc Hba]
    · isplitl [Hbc]
      · iexact Hbc
      iexact Hba
    isplitl [HxA0]
    · iexact HxA0
    iexact Hs1
  iintro ⟨Ho, Hw1, Hbar, ⟨#Hrq, #Hrr⟩, ⟨Hq31, Hq32⟩, ⟨Hr40, Hr41, Hr42⟩, Hr7, Hq8⟩
  ihave #HE : Env m K c $$ []
  · unfold Env
    isplitr; · iexact HA
    isplitr <;> iassumption
  ihave Hr7 := (ex_z (r c) a7M).1 $$ Hr7
  icases Hr7 with ⟨Hr70, Hr71, Hr72, Hr73⟩
  ihave Hq8 := (ex_z (q c) a8M).1 $$ Hq8
  icases Hq8 with ⟨Hq80, Hq81, Hq82, Hq83⟩
  iapply (part3 m K c a b [6, 7, 8, 9, 10, 11, 12, 13, 14, 15] _) $$ [Ho HxB0 HxA1 HxB1 Hr40 Hq31 Hr41 Hs15 Hs2 Hs16]
  · isplitr
    · iexact HE
    isplitl [Ho]
    · iexact Ho
    isplitl [HxB0]
    · iexact HxB0
    isplitl [HxA1]
    · iexact HxA1
    isplitl [HxB1]
    · iexact HxB1
    isplitl [Hr40]
    · iexact Hr40
    isplitl [Hq31]
    · iexact Hq31
    isplitl [Hr41]
    · iexact Hr41
    isplitl [Hs15]
    · iexact Hs15
    isplitl [Hs2]
    · iexact Hs2
    iexact Hs16
  iintro ⟨Ho, Hw15, Hw2, Hw16⟩
  iapply (part4 m K c a b _) $$ [Ho HxA2 HxB2 Hq32 Hr42 Hs3 Hs17 Hw8 Hw30 H50]
  · isplitr
    · iexact HE
    isplitl [Ho]
    · iexact Ho
    isplitl [HxA2]
    · iexact HxA2
    isplitl [HxB2]
    · iexact HxB2
    isplitl [Hq32]
    · iexact Hq32
    isplitl [Hr42]
    · iexact Hr42
    isplitl [Hs3]
    · iexact Hs3
    isplitl [Hs17]
    · iexact Hs17
    isplitl [Hw8]
    · iexact Hw8
    isplitl [Hw30]
    · iexact Hw30
    iexact H50
  iintro ⟨Ho, Hw3, Hw17, Hd8, Hd30, H30, ⟨H10, HxFA⟩, H50, H50'⟩
  iapply (part5 m K c b _) $$ [Ho H50 H50' Hr70 Hr71 Hs4 Hs5 Hw22 Hw31]
  · isplitr
    · iexact HE
    isplitl [Ho]
    · iexact Ho
    isplitl [H50]
    · iexact H50
    isplitl [H50']
    · iexact H50'
    isplitl [Hr70]
    · iexact Hr70
    isplitl [Hr71]
    · iexact Hr71
    isplitl [Hs4]
    · iexact Hs4
    isplitl [Hs5]
    · iexact Hs5
    isplitl [Hw22]
    · iexact Hw22
    iexact Hw31
  iintro ⟨Ho, Hw4, Hw5, Hd22, Hd31, H40, ⟨H11, HxFB⟩⟩
  iapply (part6 m K c a _) $$ [Ho H11 H60 Hq80 Hq81 Hs18 Hs19 Hw9]
  · isplitr
    · iexact HE
    isplitl [Ho]
    · iexact Ho
    isplitl [H11]
    · iexact H11
    isplitl [H60]
    · iexact H60
    isplitl [Hq80]
    · iexact Hq80
    isplitl [Hq81]
    · iexact Hq81
    isplitl [Hs18]
    · iexact Hs18
    isplitl [Hs19]
    · iexact Hs19
    iexact Hw9
  iintro ⟨Ho, H11, Hw18, Hw19, Hd9, H31⟩
  iapply (part7 m K c b _) $$ [Ho H10 H31 H51 Hr72 Hr73 Hs6 Hs7]
  · isplitr
    · iexact HE
    isplitl [Ho]
    · iexact Ho
    isplitl [H10]
    · iexact H10
    isplitl [H31]
    · iexact H31
    isplitl [H51]
    · iexact H51
    isplitl [Hr72]
    · iexact Hr72
    isplitl [Hr73]
    · iexact Hr73
    isplitl [Hs6]
    · iexact Hs6
    iexact Hs7
  iintro ⟨Ho, H10, H31, Hw6, Hw7⟩
  iapply (part8 m K c a _) $$ [Ho Hw23 H11 H61 Hq82 Hq83 Hs20 Hs21]
  · isplitr
    · iexact HE
    isplitl [Ho]
    · iexact Ho
    isplitl [Hw23]
    · iexact Hw23
    isplitl [H11]
    · iexact H11
    isplitl [H61]
    · iexact H61
    isplitl [Hq82]
    · iexact Hq82
    isplitl [Hq83]
    · iexact Hq83
    isplitl [Hs20]
    · iexact Hs20
    iexact Hs21
  iintro %a' %b' ⟨Ho, Hd23, H41, H11, Hw20, Hw21⟩
  dsimp only
  ihave H3 := (ex_dd c a3M) $$ [H30 H31]
  · isplitl [H30] <;> iassumption
  ihave H4 := (ex_dd c a4M) $$ [H40 H41]
  · isplitl [H40] <;> iassumption
  iapply (part9 m K c b a' b' _) $$ [Ho Hw10 Hw29 Hw24 H3]
  · isplitr
    · iexact HE
    isplitl [Ho]
    · iexact Ho
    isplitl [Hw10]
    · iexact Hw10
    isplitl [Hw29]
    · iexact Hw29
    isplitl [Hw24]
    · iexact Hw24
    iexact H3
  iintro ⟨Ho, Hd10, Hd29, Hd24, H32, ⟨H9, HxO⟩, H3, H42⟩
  iapply (part10 m K c a b _) $$ [Ho H4 Hw32 Hw11 Hw25 H3]
  · isplitr
    · iexact HE
    isplitl [Ho]
    · iexact Ho
    isplitl [H4]
    · iexact H4
    isplitl [Hw32]
    · iexact Hw32
    isplitl [Hw11]
    · iexact Hw11
    isplitl [Hw25]
    · iexact Hw25
    iexact H3
  iintro ⟨Ho, Hd32, Hd11, Hd25, ⟨H12, Hg⟩, H4, H3, H70, H80⟩
  dsimp only
  iapply (part11 m K c b f _) $$ [Ho Hw12 H3 H12 H2]
  · isplitr
    · iexact HE
    isplitl [Ho]
    · iexact Ho
    isplitl [Hw12]
    · iexact Hw12
    isplitl [H3]
    · iexact H3
    isplitl [H12]
    · iexact H12
    iexact H2
  iintro ⟨Ho, Hd12, H3, H12, H71, H2⟩
  iapply (part12 m K c a (O0 m c f) _) $$ [Ho Hw26 H4 H12 H2]
  · isplitr
    · iexact HE
    isplitl [Ho]
    · iexact Ho
    isplitl [Hw26]
    · iexact Hw26
    isplitl [H4]
    · iexact H4
    isplitl [H12]
    · iexact H12
    iexact H2
  iintro ⟨Ho, Hd26, H4, H12, H81, H2⟩
  iapply (part13 m K c a b _) $$ [Ho Hw13 Hw27 H3 H4]
  · isplitr
    · iexact HE
    isplitl [Ho]
    · iexact Ho
    isplitl [Hw13]
    · iexact Hw13
    isplitl [Hw27]
    · iexact Hw27
    isplitl [H3]
    · iexact H3
    iexact H4
  iintro ⟨Ho, Hd13, Hd27, H3, H4, H72, H82⟩
  dsimp only
  iapply (part14 m K c a b (O1 m c (O0 m c f)) _) $$ [Ho Hw14 H3 H12 H2]
  · isplitr
    · iexact HE
    isplitl [Ho]
    · iexact Ho
    isplitl [Hw14]
    · iexact Hw14
    isplitl [H3]
    · iexact H3
    isplitl [H12]
    · iexact H12
    iexact H2
  iintro ⟨Ho, Hd14, H3, H12, H73, H2⟩
  iapply (part15 m K c (O2 m c (O1 m c (O0 m c f))) _) $$ [Ho Hw28 H4 H12 H2]
  · isplitr
    · iexact HE
    isplitl [Ho]
    · iexact Ho
    isplitl [Hw28]
    · iexact Hw28
    isplitl [H4]
    · iexact H4
    isplitl [H12]
    · iexact H12
    iexact H2
  iintro ⟨Ho, Hd28, H4, H12, H83, H2⟩
  iapply (part16 m K c _) $$ [Ho Hw1 Hw2 Hw3 Hw15 Hw16]
  · isplitr
    · iexact HE
    isplitl [Ho]
    · iexact Ho
    isplitl [Hw1]
    · iexact Hw1
    isplitl [Hw2]
    · iexact Hw2
    isplitl [Hw3]
    · iexact Hw3
    isplitl [Hw15]
    · iexact Hw15
    iexact Hw16
  iintro ⟨Ho, Hd1, Hd2, Hd3, Hd15, Hd16, HxA0, HxA1, HxA2, HxB0, HxB1⟩
  iapply (part17 m K c _) $$ [Ho Hw17 Hw4 Hw5 Hw6 Hw7]
  · isplitr
    · iexact HE
    isplitl [Ho]
    · iexact Ho
    isplitl [Hw17]
    · iexact Hw17
    isplitl [Hw4]
    · iexact Hw4
    isplitl [Hw5]
    · iexact Hw5
    isplitl [Hw6]
    · iexact Hw6
    iexact Hw7
  iintro ⟨Ho, Hd17, Hd4, Hd5, Hd6, Hd7, HxB2, H50, H51, H52, H53⟩
  iapply (wait_step m K c (dst := z0 a6M) (ds 18) (by decide) rfl [] (by decide)) $$ [Ho Hw18]
  · isplitr
    · iexact HA
    isplitl [Ho]
    · iexact Ho
    iexact Hw18
  iintro ⟨Ho, Hd18, Hp⟩
  ihave Hp := (cp18 m c) $$ Hp
  icases Hp with H60
  iapply (wait_step m K c (dst := z1 a6M) (ds 19) (by decide) rfl [] (by decide)) $$ [Ho Hw19]
  · isplitr
    · iexact HA
    isplitl [Ho]
    · iexact Ho
    iexact Hw19
  iintro ⟨Ho, Hd19, Hp⟩
  ihave Hp := (cp19 m c) $$ Hp
  icases Hp with H61
  iapply (wait_step m K c (dst := z2 a6M) (ds 20) (by decide) rfl [] (by decide)) $$ [Ho Hw20]
  · isplitr
    · iexact HA
    isplitl [Ho]
    · iexact Ho
    iexact Hw20
  iintro ⟨Ho, Hd20, Hp⟩
  ihave Hp := (cp20 m c) $$ Hp
  icases Hp with H62
  rw [wp_ret]
  imodintro
  iapply (wait_step m K c (dst := z3 a6M) (ds 21) (by decide) rfl [] (by decide)) $$ [Ho Hw21]
  · isplitr
    · iexact HA
    isplitl [Ho]
    · iexact Ho
    iexact Hw21
  iintro ⟨Ho, Hd21, Hp⟩
  ihave Hp := (cp21 m c) $$ Hp
  icases Hp with H63
  rw [wp_ret]
  imodintro
  ihave H3 := (ex_whole c a3M _) $$ [H3 H32]
  · isplitl [H3]
    · iexact H3
    iexact H32
  ihave H4 := (ex_whole c a4M _) $$ [H4 H42]
  · isplitl [H4]
    · iexact H4
    iexact H42
  ihave H5 := (ex_four c a5M _) $$ [H50 H51 H52 H53]
  · isplitl [H50]
    · iexact H50
    isplitl [H51]
    · iexact H51
    isplitl [H52]
    · iexact H52
    iexact H53
  ihave H6 := (ex_four c a6M _) $$ [H60 H61 H62 H63]
  · isplitl [H60]
    · iexact H60
    isplitl [H61]
    · iexact H61
    isplitl [H62]
    · iexact H62
    iexact H63
  ihave H7 := (ex_four_on c a7M _) $$ [H70 H71 H72 H73]
  · isplitl [H70]
    · iexact H70
    isplitl [H71]
    · iexact H71
    isplitl [H72]
    · iexact H72
    iexact H73
  ihave H8 := (ex_four_on c a8M _) $$ [H80 H81 H82 H83]
  · isplitl [H80]
    · iexact H80
    isplitl [H81]
    · iexact H81
    isplitl [H82]
    · iexact H82
    iexact H83
  ihave Hx := (x_cut m c).2 $$ [HxO HxFA HxFB HxA0 HxA1 HxA2 HxB0 HxB1 HxB2 HxR]
  · isplitl [HxO HxFA HxFB HxA0 HxA1 HxA2 HxB0 HxB1 HxB2]
    · isplitl [HxO]
      · iexact HxO
      isplitl [HxFA]
      · iexact HxFA
      isplitl [HxFB]
      · iexact HxFB
      isplitl [HxA0]
      · iexact HxA0
      isplitl [HxA1]
      · iexact HxA1
      isplitl [HxA2]
      · iexact HxA2
      isplitl [HxB0]
      · iexact HxB0
      isplitl [HxB1]
      · iexact HxB1
      iexact HxB2
    iexact HxR
  iapply Hk
  isplitl [Ho]; · iexact Ho
  isplitl [Hbar]; · iexact Hbar
  isplitl [Hd1 Hd2 Hd3 Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 Hd32]
  · unfold allDone
    isplitl [Hd1]
    · iexact Hd1
    isplitl [Hd2]
    · iexact Hd2
    isplitl [Hd3]
    · iexact Hd3
    isplitl [Hd4]
    · iexact Hd4
    isplitl [Hd5]
    · iexact Hd5
    isplitl [Hd6]
    · iexact Hd6
    isplitl [Hd7]
    · iexact Hd7
    isplitl [Hd8]
    · iexact Hd8
    isplitl [Hd9]
    · iexact Hd9
    isplitl [Hd10]
    · iexact Hd10
    isplitl [Hd11]
    · iexact Hd11
    isplitl [Hd12]
    · iexact Hd12
    isplitl [Hd13]
    · iexact Hd13
    isplitl [Hd14]
    · iexact Hd14
    isplitl [Hd15]
    · iexact Hd15
    isplitl [Hd16]
    · iexact Hd16
    isplitl [Hd17]
    · iexact Hd17
    isplitl [Hd18]
    · iexact Hd18
    isplitl [Hd19]
    · iexact Hd19
    isplitl [Hd20]
    · iexact Hd20
    isplitl [Hd21]
    · iexact Hd21
    isplitl [Hd22]
    · iexact Hd22
    isplitl [Hd23]
    · iexact Hd23
    isplitl [Hd24]
    · iexact Hd24
    isplitl [Hd25]
    · iexact Hd25
    isplitl [Hd26]
    · iexact Hd26
    isplitl [Hd27]
    · iexact Hd27
    isplitl [Hd28]
    · iexact Hd28
    isplitl [Hd29]
    · iexact Hd29
    isplitl [Hd30]
    · iexact Hd30
    isplitl [Hd31]
    · iexact Hd31
    iexact Hd32
  isplitl [Hx]; · iexact Hx
  isplitl [Hg]; · iexact Hg
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iexists _; iexact H12

end Cert.KernelIdeal.Mesh
-- ==== Proof.Rights.lean ====
/- What the launch deals to a device, sorted into the rights that the body uses, and the cells opened and closed. -/
module

public import proofs.«01_k».proof.Proof.BodyD

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## A family over the kernel's own semaphores, one by one -/

theorem fin32 (Φ : Fin 32 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide) (by decide) Φ

/-! ## Who pays what -/

/-- The device on whose semaphore `k` device `c` may pay. -/
def tgt (c : Dev nD) (k : Fin 32) : Dev nD :=
  match k.val with
  | 7 | 8 | 9 | 24 | 25 | 26 | 27 => q c
  | 10 | 11 | 12 | 13 | 21 | 22 | 23 => r c
  | _ => c

theorem tgt_tgt (k : Fin 32) (c : Dev nD) : tgt (tgt c k) k = c := by revert k c; decide

/-- The tokens of the payments that device `c` makes on DMA semaphores, and its positions on its own. -/
def toks : sProp 𝕄 := bigSep Finset.univ fun k : Fin 32 => dutyTok ER ((tgt c k : Thread nD τ), osem k) 0 false
def ats (n : ℕ) : sProp 𝕄 := bigSep Finset.univ fun k : Fin 32 => atPos ER ((c : Thread nD τ), osem k) n ∅ 0
/-- The credits of the landings that others pay for. -/
def creds : sProp 𝕄 := iprop(cred (tallyAt (dCell c (ds 8)) () (amt (ds 8))) ∗ cred (tallyAt (dCell c (ds 9)) () (amt (ds 9))) ∗ cred (tallyAt (dCell c (ds 10)) () (amt (ds 10))) ∗ cred (tallyAt (dCell c (ds 11)) () (amt (ds 11))) ∗ cred (tallyAt (dCell c (ds 12)) () (amt (ds 12))) ∗ cred (tallyAt (dCell c (ds 13)) () (amt (ds 13))) ∗ cred (tallyAt (dCell c (ds 14)) () (amt (ds 14))) ∗ cred (tallyAt (dCell c (ds 22)) () (amt (ds 22))) ∗ cred (tallyAt (dCell c (ds 23)) () (amt (ds 23))) ∗ cred (tallyAt (dCell c (ds 24)) () (amt (ds 24))) ∗ cred (tallyAt (dCell c (ds 25)) () (amt (ds 25))) ∗ cred (tallyAt (dCell c (ds 26)) () (amt (ds 26))) ∗ cred (tallyAt (dCell c (ds 27)) () (amt (ds 27))) ∗ cred (tallyAt (dCell c (ds 28)) () (amt (ds 28))))

theorem toks_eq : toks (F := F) c = iprop(dutyTok ER (dCell c (ds 1)) 0 false ∗ dutyTok ER (dCell c (ds 2)) 0 false ∗ dutyTok ER (dCell c (ds 3)) 0 false ∗ dutyTok ER (dCell c (ds 4)) 0 false ∗ dutyTok ER (dCell c (ds 5)) 0 false ∗ dutyTok ER (dCell c (ds 6)) 0 false ∗ dutyTok ER (dCell c (ds 7)) 0 false ∗ dutyTok ER (dCell (q c) (ds 8)) 0 false ∗ dutyTok ER (dCell (q c) (ds 9)) 0 false ∗ dutyTok ER (dCell (q c) (ds 10)) 0 false ∗ dutyTok ER (dCell (r c) (ds 11)) 0 false ∗ dutyTok ER (dCell (r c) (ds 12)) 0 false ∗ dutyTok ER (dCell (r c) (ds 13)) 0 false ∗ dutyTok ER (dCell (r c) (ds 14)) 0 false ∗ dutyTok ER (dCell c (ds 15)) 0 false ∗ dutyTok ER (dCell c (ds 16)) 0 false ∗ dutyTok ER (dCell c (ds 17)) 0 false ∗ dutyTok ER (dCell c (ds 18)) 0 false ∗ dutyTok ER (dCell c (ds 19)) 0 false ∗ dutyTok ER (dCell c (ds 20)) 0 false ∗ dutyTok ER (dCell c (ds 21)) 0 false ∗ dutyTok ER (dCell (r c) (ds 22)) 0 false ∗ dutyTok ER (dCell (r c) (ds 23)) 0 false ∗ dutyTok ER (dCell (r c) (ds 24)) 0 false ∗ dutyTok ER (dCell (q c) (ds 25)) 0 false ∗ dutyTok ER (dCell (q c) (ds 26)) 0 false ∗ dutyTok ER (dCell (q c) (ds 27)) 0 false ∗ dutyTok ER (dCell (q c) (ds 28)) 0 false ∗ dutyTok ER (dCell c (ds 29)) 0 false ∗ dutyTok ER (dCell c (ds 30)) 0 false ∗ dutyTok ER (dCell c (ds 31)) 0 false ∗ dutyTok ER (dCell c (ds 32)) 0 false) := fin32 _
theorem ats_eq (n : ℕ) : ats (F := F) c n = iprop(atPos ER (dCell c (ds 1)) n ∅ 0 ∗ atPos ER (dCell c (ds 2)) n ∅ 0 ∗ atPos ER (dCell c (ds 3)) n ∅ 0 ∗ atPos ER (dCell c (ds 4)) n ∅ 0 ∗ atPos ER (dCell c (ds 5)) n ∅ 0 ∗ atPos ER (dCell c (ds 6)) n ∅ 0 ∗ atPos ER (dCell c (ds 7)) n ∅ 0 ∗ atPos ER (dCell c (ds 8)) n ∅ 0 ∗ atPos ER (dCell c (ds 9)) n ∅ 0 ∗ atPos ER (dCell c (ds 10)) n ∅ 0 ∗ atPos ER (dCell c (ds 11)) n ∅ 0 ∗ atPos ER (dCell c (ds 12)) n ∅ 0 ∗ atPos ER (dCell c (ds 13)) n ∅ 0 ∗ atPos ER (dCell c (ds 14)) n ∅ 0 ∗ atPos ER (dCell c (ds 15)) n ∅ 0 ∗ atPos ER (dCell c (ds 16)) n ∅ 0 ∗ atPos ER (dCell c (ds 17)) n ∅ 0 ∗ atPos ER (dCell c (ds 18)) n ∅ 0 ∗ atPos ER (dCell c (ds 19)) n ∅ 0 ∗ atPos ER (dCell c (ds 20)) n ∅ 0 ∗ atPos ER (dCell c (ds 21)) n ∅ 0 ∗ atPos ER (dCell c (ds 22)) n ∅ 0 ∗ atPos ER (dCell c (ds 23)) n ∅ 0 ∗ atPos ER (dCell c (ds 24)) n ∅ 0 ∗ atPos ER (dCell c (ds 25)) n ∅ 0 ∗ atPos ER (dCell c (ds 26)) n ∅ 0 ∗ atPos ER (dCell c (ds 27)) n ∅ 0 ∗ atPos ER (dCell c (ds 28)) n ∅ 0 ∗ atPos ER (dCell c (ds 29)) n ∅ 0 ∗ atPos ER (dCell c (ds 30)) n ∅ 0 ∗ atPos ER (dCell c (ds 31)) n ∅ 0 ∗ atPos ER (dCell c (ds 32)) n ∅ 0) := fin32 _
theorem done_eq : allDone (F := F) c = ats c 1 := (ats_eq c 1).symm

theorem rights_make : iprop(toks (F := F) c ∗ ats c 0 ∗ creds c) ⊢ iprop(sendRights c ∗ waitRights c) := by
  rw [toks_eq, ats_eq]
  unfold creds sendRights waitRights stk lt wt
  iintro ⟨⟨T1, T2, T3, T4, T5, T6, T7, T8, T9, T10, T11, T12, T13, T14, T15, T16, T17, T18, T19, T20, T21, T22, T23, T24, T25, T26, T27, T28, T29, T30, T31, T32⟩, ⟨A1, A2, A3, A4, A5, A6, A7, A8, A9, A10, A11, A12, A13, A14, A15, A16, A17, A18, A19, A20, A21, A22, A23, A24, A25, A26, A27, A28, A29, A30, A31, A32⟩, ⟨C8, C9, C10, C11, C12, C13, C14, C22, C23, C24, C25, C26, C27, C28⟩⟩
  isplitl [T29 A29 T30 A30 T31 A31 T32 A32 T1 A1 T8 T2 A2 T9 T3 A3 T10 T4 A4 T11 T5 A5 T12 T6 A6 T13 T7 A7 T14 T15 A15 T22 T16 A16 T23 T17 A17 T24 T18 A18 T25 T19 A19 T26 T20 A20 T27 T21 A21 T28]
  · isplitl [T29 A29]
    · isplitl [T29]
      · iexact T29
      iexact A29
    isplitl [T30 A30]
    · isplitl [T30]
      · iexact T30
      iexact A30
    isplitl [T31 A31]
    · isplitl [T31]
      · iexact T31
      iexact A31
    isplitl [T32 A32]
    · isplitl [T32]
      · iexact T32
      iexact A32
    isplitl [T1 A1 T8]
    · isplitl [T1 A1]
      · isplitl [T1]
        · iexact T1
        iexact A1
      iexact T8
    isplitl [T2 A2 T9]
    · isplitl [T2 A2]
      · isplitl [T2]
        · iexact T2
        iexact A2
      iexact T9
    isplitl [T3 A3 T10]
    · isplitl [T3 A3]
      · isplitl [T3]
        · iexact T3
        iexact A3
      iexact T10
    isplitl [T4 A4 T11]
    · isplitl [T4 A4]
      · isplitl [T4]
        · iexact T4
        iexact A4
      iexact T11
    isplitl [T5 A5 T12]
    · isplitl [T5 A5]
      · isplitl [T5]
        · iexact T5
        iexact A5
      iexact T12
    isplitl [T6 A6 T13]
    · isplitl [T6 A6]
      · isplitl [T6]
        · iexact T6
        iexact A6
      iexact T13
    isplitl [T7 A7 T14]
    · isplitl [T7 A7]
      · isplitl [T7]
        · iexact T7
        iexact A7
      iexact T14
    isplitl [T15 A15 T22]
    · isplitl [T15 A15]
      · isplitl [T15]
        · iexact T15
        iexact A15
      iexact T22
    isplitl [T16 A16 T23]
    · isplitl [T16 A16]
      · isplitl [T16]
        · iexact T16
        iexact A16
      iexact T23
    isplitl [T17 A17 T24]
    · isplitl [T17 A17]
      · isplitl [T17]
        · iexact T17
        iexact A17
      iexact T24
    isplitl [T18 A18 T25]
    · isplitl [T18 A18]
      · isplitl [T18]
        · iexact T18
        iexact A18
      iexact T25
    isplitl [T19 A19 T26]
    · isplitl [T19 A19]
      · isplitl [T19]
        · iexact T19
        iexact A19
      iexact T26
    isplitl [T20 A20 T27]
    · isplitl [T20 A20]
      · isplitl [T20]
        · iexact T20
        iexact A20
      iexact T27
    isplitl [T21 A21]
    · isplitl [T21]
      · iexact T21
      iexact A21
    iexact T28
  isplitl [C8 A8]
  · isplitl [C8]
    · iexact C8
    iexact A8
  isplitl [C9 A9]
  · isplitl [C9]
    · iexact C9
    iexact A9
  isplitl [C10 A10]
  · isplitl [C10]
    · iexact C10
    iexact A10
  isplitl [C11 A11]
  · isplitl [C11]
    · iexact C11
    iexact A11
  isplitl [C12 A12]
  · isplitl [C12]
    · iexact C12
    iexact A12
  isplitl [C13 A13]
  · isplitl [C13]
    · iexact C13
    iexact A13
  isplitl [C14 A14]
  · isplitl [C14]
    · iexact C14
    iexact A14
  isplitl [C22 A22]
  · isplitl [C22]
    · iexact C22
    iexact A22
  isplitl [C23 A23]
  · isplitl [C23]
    · iexact C23
    iexact A23
  isplitl [C24 A24]
  · isplitl [C24]
    · iexact C24
    iexact A24
  isplitl [C25 A25]
  · isplitl [C25]
    · iexact C25
    iexact A25
  isplitl [C26 A26]
  · isplitl [C26]
    · iexact C26
    iexact A26
  isplitl [C27 A27]
  · isplitl [C27]
    · iexact C27
    iexact A27
  isplitl [C28]
  · iexact C28
  iexact A28

/-! ## Opening and closing a device's cells -/

/-- The rights to open. -/
def opens : sProp 𝕄 := bigSep Finset.univ fun k : Fin 32 => openTok ER ((c : Thread nD τ), osem k)

theorem inv_split : Inv m K ⊢ iprop(cellInv ER (Rd m) (K (barCell c)) (barCell c)
    ∗ bigSep Finset.univ fun k : Fin 32 => cellInv ER (Rd m) (K ((c : Thread nD τ), osem k)) ((c : Thread nD τ), osem k)) :=
  inv_at m K c

theorem open_cells : iprop(Inv m K ∗ opens c ∗ Pipeline.ownSems0 osem c)
    ⊢ (|={Set.univ}=> iprop(ats c 0 ∗ rch c) : sProp 𝕄) := by
  have h : iprop(Inv m K ∗ bigSep Finset.univ fun k : Fin 32 =>
        iprop(openTok ER ((c : Thread nD τ), osem k) ∗ semVal ((c : Thread nD τ), osem k) 0))
      ⊢ (|={Set.univ}=> bigSep Finset.univ fun k : Fin 32 =>
        iprop(atPos ER ((c : Thread nD τ), osem k) 0 ∅ 0 ∗ reached ER ((c : Thread nD τ), osem k) 0) : sProp 𝕄) :=
    (bigSep_with_persistent fun k _ => by
      iintro ⟨#HI, Ho, Hv⟩
      iapply (Rounds.cell_open ER (Rd m) (g := ((c : Thread nD τ), osem k)) (Set.mem_univ (K ((c : Thread nD τ), osem k))))
      isplitr
      · iapply (inv_own m K c k); iexact HI
      isplitl [Ho] <;> iassumption).trans (bigSep_fupd _ _)
  rw [bigSep_sep', bigSep_sep'] at h
  exact h

theorem close_cells : iprop(Inv m K ∗ atPos ER (barCell c) 1 ∅ 0 ∗ allDone c)
    ⊢ (|={Set.univ}=> iprop(semVal (barCell c) 0 ∗ Pipeline.ownSems0 osem c) : sProp 𝕄) := by
  have h : iprop(Inv m K ∗ ats c 1) ⊢ (|={Set.univ}=> Pipeline.ownSems0 osem c : sProp 𝕄) :=
    (bigSep_with_persistent fun k _ => by
      iintro ⟨#HI, Ha⟩
      iapply (Rounds.cell_close ER (Rd m) (g := ((c : Thread nD τ), osem k)) (Set.mem_univ (K ((c : Thread nD τ), osem k))) id
        (duties_later m ((c : Thread nD τ), osem k)))
      isplitr
      · iapply (inv_own m K c k); iexact HI
      iexact Ha).trans (bigSep_fupd _ _)
  rw [done_eq]
  iintro ⟨#HI, Hb, Ha⟩
  imod (Rounds.cell_close ER (Rd m) (g := barCell c) (Set.mem_univ (K (barCell c))) id (duties_later m (barCell c))) $$ [Hb] with Hb0
  · isplitr
    · iapply (inv_bar m K c); iexact HI
    iexact Hb
  imod h $$ [Ha] with Hs
  · isplitr
    · iexact HI
    iexact Ha
  imodintro
  isplitl [Hb0]
  · iexact Hb0
  iexact Hs

end Cert.KernelIdeal.Mesh
-- ==== Proof.Launch.lean ====
/- The launch: the cells and the tokens, the credits of what every device owes, and the dealing of them to the devices. -/
module

public import proofs.«01_k».proof.Proof.Rights

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

variable (ρ : Dev nD → PrngReg)

/-! ## The cells and the tokens -/

theorem osem_inj : Function.Injective (osem : Fin 32 → SemLoc sig) := by decide +kernel
theorem osem_ne_bar (k : Fin 32) : osem k ≠ .reg barS := fun h => by cases h

def barEmb : Dev nD ↪ GSem nD τ sig := ⟨fun c => barCell c, fun _ _ h => congrArg (fun g : GSem nD τ sig => g.1.1) h⟩
def ownEmb : Dev nD × Fin 32 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- A device's tokens: two on its barrier cell, one on each of its own. -/
def tokSem : Bool ⊕ Fin 32 → SemLoc sig := Sum.elim (fun _ => .reg barS) osem
def tokDuty : Bool ⊕ Fin 32 → Bool := Sum.elim id fun _ => false
theorem tok_inj (x y : Bool ⊕ Fin 32) (h : tokSem x = tokSem y) (h' : tokDuty x = tokDuty y) : x = y := by
  rcases x with x | x <;> rcases y with y | y
  · exact congrArg Sum.inl h'
  · exact absurd h.symm (osem_ne_bar y)
  · exact absurd h (osem_ne_bar x)
  · exact congrArg Sum.inr (osem_inj h)
def allToks : Finset (GSem nD τ sig × ℕ × Bool) :=
  Finset.univ.map ⟨fun cx : Dev nD × (Bool ⊕ Fin 32) => (((cx.1 : Thread nD τ), tokSem cx.2), 0, tokDuty cx.2), fun _ _ h =>
    Prod.ext (congrArg (fun t : GSem nD τ sig × ℕ × Bool => t.1.1.1) h)
      (tok_inj _ _ (congrArg (fun t : GSem nD τ sig × ℕ × Bool => t.1.2) h) (congrArg (fun t : GSem nD τ sig × ℕ × Bool => t.2.2) h))⟩

/-- The tokens of the two entry signals that device `c` makes. -/
def barToks : sProp 𝕄 := iprop(dutyTok ER (barCell (lft c)) 0 true ∗ dutyTok ER (barCell (rgt c)) 0 false)

def tgtE (k : Fin 32) : Dev nD ≃ Dev nD := ⟨fun c => tgt c k, fun c => tgt c k, fun c => tgt_tgt k c, fun c => tgt_tgt k c⟩
def lftE : Dev nD ≃ Dev nD := ⟨lft, rgt, rgt_lft, lft_rgt⟩
def rgtE : Dev nD ≃ Dev nD := ⟨rgt, lft, lft_rgt, rgt_lft⟩

/-- A double family, by rows or by columns. -/
theorem swap_rows (Φ : Dev nD → Fin 32 → sProp 𝕄) : (bigSep Finset.univ fun c => bigSep Finset.univ fun k => Φ c k)
    = bigSep Finset.univ fun k => bigSep Finset.univ fun c => Φ c k := by
  rw [← bigSep_univ_prod (fun x : Dev nD × Fin 32 => Φ x.1 x.2), ← bigSep_univ_prod (fun x : Fin 32 × Dev nD => Φ x.2 x.1)]
  exact bigSep_univ_equiv (Equiv.prodComm (Fin 32) (Dev nD)) _

/-- All the tokens, each handed to the device that pays. -/
theorem toks_around : bigSep allToks (fun x => (dutyTok ER x.1 x.2.1 x.2.2 : sProp 𝕄))
    ⊢ bigSep Finset.univ fun c : Dev nD => iprop(barToks c ∗ toks c) := by
  have hb (c : Dev nD) : bigSep Finset.univ (fun b : Bool => (dutyTok ER (barCell c) 0 b : sProp 𝕄))
      = iprop(dutyTok ER (barCell c) 0 true ∗ dutyTok ER (barCell c) 0 false) :=
    bigSep_univ_eq_bigSepL [true, false] (by decide) (by decide) _
  have e : bigSep allToks (fun x => (dutyTok ER x.1 x.2.1 x.2.2 : sProp 𝕄))
      = bigSep Finset.univ fun c : Dev nD => iprop((dutyTok ER (barCell c) 0 true ∗ dutyTok ER (barCell c) 0 false)
        ∗ bigSep Finset.univ fun k : Fin 32 => dutyTok ER ((c : Thread nD τ), osem k) 0 false) := by
    unfold allToks
    rw [bigSep_map, bigSep_univ_prod]
    refine bigSep_congr fun c _ => ?_
    rw [bigSep_univ_sum]
    exact congrArg₂ _ (hb c) rfl
  have h1 : (bigSep Finset.univ fun c : Dev nD => bigSep Finset.univ fun k : Fin 32 => (dutyTok ER ((c : Thread nD τ), osem k) 0 false : sProp 𝕄))
      = bigSep Finset.univ fun c : Dev nD => toks c := by
    unfold toks
    rw [swap_rows, swap_rows fun (c : Dev nD) (k : Fin 32) => (dutyTok ER ((tgt c k : Thread nD τ), osem k) 0 false : sProp 𝕄)]
    exact bigSep_congr fun k _ => bigSep_univ_equiv (tgtE k) fun c : Dev nD => (dutyTok ER ((c : Thread nD τ), osem k) 0 false : sProp 𝕄)
  rw [e]
  unfold barToks
  rw [bigSep_sep', bigSep_sep', bigSep_sep', bigSep_sep', h1,
    bigSep_univ_equiv lftE (fun c : Dev nD => (dutyTok ER (barCell c) 0 true : sProp 𝕄)),
    bigSep_univ_equiv rgtE (fun c : Dev nD => (dutyTok ER (barCell c) 0 false : sProp 𝕄))]
  exact BI.Entails.refl _

/-! ## The credits of the launch -/

/-- What every device owes at the launch. -/
abbrev O₀ (c : Dev nD) : CellTallies nD τ sig Unit := debt c allDebts

/-- A debt list's tally on a cell: its debts that lie there. -/
theorem debt_at (d : Dev nD) (l : List (Fin 16)) (c : Dev nD) (sl : SemLoc sig) :
    debt d l ((c : Thread nD τ), sl) () = semAmt sl * (l.filter fun i => decide (oDev d i = c ∧ oSem i = sl)).length := by
  induction l with
  | nil => rfl
  | cons i l ih =>
    have e : debt d (i :: l) ((c : Thread nD τ), sl) () = debt d l ((c : Thread nD τ), sl) () + tallyAt (oCell d i) () (semAmt (oSem i)) ((c : Thread nD τ), sl) () := rfl
    rw [e, ih, tallyAt_apply]
    by_cases h : oDev d i = c ∧ oSem i = sl
    · obtain ⟨rfl, rfl⟩ := h
      rw [if_pos ⟨rfl, rfl⟩, List.filter_cons_of_pos (by simp), List.length_cons, Nat.mul_succ]
    · rw [if_neg (fun h' => h ⟨(congrArg (fun g : GSem nD τ sig => g.1.1) h'.1).symm, (congrArg Prod.snd h'.1).symm⟩),
        List.filter_cons_of_neg (by simpa using h), Nat.add_zero]

theorem launch_cell (c : Dev nD) (sl : SemLoc sig) (n : ℕ)
    (h : (∑ d : Dev nD, (allDebts.filter fun i => decide (oDev d i = c ∧ oSem i = sl)).length) = n) :
    tallyOn ((c : Thread nD τ), sl) (launchCredit (Pipeline.owing O₀) 0 ((c : Thread nD τ), sl))
      = (tallyAt ((c : Thread nD τ), sl) () (semAmt sl * n) : CellTallies nD τ sig Unit) := by
  unfold tallyAt
  refine congrArg _ (Finsupp.ext fun u => ?_)
  cases u
  rw [Pipeline.launchCredit_owing, Finsupp.single_eq_same, ← h, Finset.mul_sum]
  exact Finset.sum_congr rfl fun d _ => debt_at d allDebts c sl

/-- The semaphores whose payments come from other devices. -/
def credSem : Fin 15 → SemLoc sig := ![.reg barS, .dma (ds 8), .dma (ds 9), .dma (ds 10), .dma (ds 11), .dma (ds 12), .dma (ds 13), .dma (ds 14), .dma (ds 22), .dma (ds 23), .dma (ds 24), .dma (ds 25), .dma (ds 26), .dma (ds 27), .dma (ds 28)]
theorem credSem_inj : Function.Injective credSem := by decide +kernel
def credNum (j : Fin 15) : ℕ := if j.val = 0 then 2 else 1
theorem cred_count : ∀ (c : Dev nD) (j : Fin 15),
    (∑ d : Dev nD, (allDebts.filter fun i => decide (oDev d i = c ∧ oSem i = credSem j)).length) = credNum j := by decide +kernel

def credAmt : Fin 15 → ℕ := ![2, amt (ds 8), amt (ds 9), amt (ds 10), amt (ds 11), amt (ds 12), amt (ds 13), amt (ds 14), amt (ds 22), amt (ds 23), amt (ds 24), amt (ds 25), amt (ds 26), amt (ds 27), amt (ds 28)]
theorem cred_amt (j : Fin 15) : semAmt (credSem j) * credNum j = credAmt j := by
  match j with
  | 0 => exact rfl
  | 1 => exact Nat.mul_one (amt (ds 8))
  | 2 => exact Nat.mul_one (amt (ds 9))
  | 3 => exact Nat.mul_one (amt (ds 10))
  | 4 => exact Nat.mul_one (amt (ds 11))
  | 5 => exact Nat.mul_one (amt (ds 12))
  | 6 => exact Nat.mul_one (amt (ds 13))
  | 7 => exact Nat.mul_one (amt (ds 14))
  | 8 => exact Nat.mul_one (amt (ds 22))
  | 9 => exact Nat.mul_one (amt (ds 23))
  | 10 => exact Nat.mul_one (amt (ds 24))
  | 11 => exact Nat.mul_one (amt (ds 25))
  | 12 => exact Nat.mul_one (amt (ds 26))
  | 13 => exact Nat.mul_one (amt (ds 27))
  | 14 => exact Nat.mul_one (amt (ds 28))

theorem cred_deal : (Pipeline.launchCred O₀ c : sProp 𝕄) ⊢ iprop(cred (tallyAt (barCell c) () 2) ∗ creds c) := by
  unfold Pipeline.launchCred
  refine (bigSep_subset (Finset.subset_univ (Finset.univ.map ⟨credSem, credSem_inj⟩))).trans ?_
  rw [bigSep_map]
  have e : (bigSep Finset.univ fun j : Fin 15 => (cred (tallyOn ((c.tc : Thread nD τ), credSem j) (launchCredit (Pipeline.owing O₀) 0 ((c.tc : Thread nD τ), credSem j))) : sProp 𝕄))
      = bigSep Finset.univ fun j : Fin 15 => cred (tallyAt ((c : Thread nD τ), credSem j) () (credAmt j)) :=
    bigSep_congr fun j _ => congrArg cred ((launch_cell c (credSem j) (credNum j) (cred_count c j)).trans (by rw [cred_amt]))
  refine (Entails.of_eq e).trans ?_
  rw [bigSep_univ_eq_bigSepL [0, 1, 2, 3, 4, 5, 6, 7, 8, 9, 10, 11, 12, 13, 14] (by decide) (by decide)]
  exact BI.Entails.refl _

/-! ## The dealing -/

/-- What every device may consult: all the invariants under one map of names, and every barrier cell open. -/
def records : sProp 𝕄 := iprop(Inv m K ∗ bigSep Finset.univ fun d : Dev nD => reached ER (barCell d) 0)
instance records_persistent : BI.Persistent (records m K) := by unfold records; infer_instance

/-- What goes to device `c`. -/
def linear : sProp 𝕄 := iprop(atPos ER (barCell c) 0 ∅ 0 ∗ opens c ∗ barToks c ∗ toks c)

/-- The kernel's part of the state in which a device starts. -/
def Tk : sProp 𝕄 := iprop((∃ K, records m K ∗ linear c) ∗ cred (tallyAt (barCell c) () 2) ∗ creds c)

theorem records_intro : iprop((bigSep (barCells ∪ ownCells) fun g => cellInv ER (Rd m) (K g) g) ∗ bigSep barCells fun g => reached ER g 0)
    ⊢ records m K := by
  unfold records Inv InvC
  rw [show (bigSep (barCells ∪ ownCells) fun g => cellInv ER (Rd m) (K g) g : sProp 𝕄)
      = iprop((bigSep barCells fun g => cellInv ER (Rd m) (K g) g) ∗ bigSep ownCells fun g => cellInv ER (Rd m) (K g) g) from bigSep_union disjoint_cells,
    bigSep_map, bigSep_map, bigSep_map, bigSep_univ_prod, bigSep_sep']
  exact BI.Entails.refl _

def u₀ : UU :=
  (initOf (Pipeline.cells cfgs cellOf_inj) (Pipeline.launchToks cfgs cellOf_inj), launchOf barCells ownCells allToks)

/-- The whole of the kernel's start, held by device 0 until it is dealt. -/
def Gx : Dev nD → sProp 𝕄 := fun c => if c = 0 then BI.own (ER (launchOf barCells ownCells allToks)) else iprop(emp)
theorem Gx_all : bigSep Finset.univ (Gx (F := F)) = BI.own (ER (launchOf barCells ownCells allToks)) := by
  rw [bigSep_univ_at _ (0 : Dev nD), bigSep_congr (s := Finset.univ.erase (0 : Dev nD)) (Ψ := fun _ => (BI.emp : sProp 𝕄))
      fun c hc => by unfold Gx; rw [if_neg (Finset.ne_of_mem_erase hc)]; rfl, BI.bigSep_emp_const]
  unfold Gx; rw [if_pos rfl]
  exact BI.equiv_iff.mp sep_emp

theorem deal : iprop((bigSep Finset.univ fun c : Dev nD => (semVal (barCell c) 0 : sProp 𝕄))
      ∗ BI.own (ER (launchOf barCells ownCells allToks)))
    ⊢ (|={Set.univ}=> iprop(∃ K, records m K ∗ bigSep Finset.univ fun c : Dev nD => linear c) : sProp 𝕄) := by
  have hv : (bigSep Finset.univ fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄)) ⊢ bigSep Finset.univ fun c : Dev nD => opens c :=
    Entails.of_eq (by rw [bigSep_map, bigSep_univ_prod]; rfl)
  iintro ⟨Hv, Hu⟩
  imod (Rounds.fund_launch ER (Rd m) disjoint_cells (fun g _ h => h) allToks) $$ [Hv Hu] with ⟨%κ, -, #Hinv, #Hr, Hat, Hopen, Htok⟩
  · isplitl [Hv]
    · iapply hv $$ Hv
    · iexact Hu
  imodintro
  iexists κ
  isplitr
  · iapply (records_intro m κ)
    isplitr; · iexact Hinv
    iexact Hr
  unfold linear
  rw [bigSep_sep', bigSep_sep']
  isplitl [Hat]; · iapply hat $$ Hat
  isplitl [Hopen]; · iapply hopen $$ Hopen
  iapply (toks_around (F := F)) $$ Htok

end Cert.KernelIdeal.Mesh
-- ==== Proof.Region.lean ====
/- The kernel region: what the result buffer holds at the end, the body as the pipeline calls it, and the region entered and left. -/
module

public import Idealize.ShloMosaic.Lib.Pipeline.RegionTalk
public import Idealize.ShloMosaic.Lib.Pipeline.ValueKit
public import proofs.«01_k».proof.Proof.Launch

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-! ## The result does not depend on what the buffer held -/

theorem acc2 (R : Rect S512x512) : (a2M.access R).set = R.set :=
  (acc_set a2M R).trans Finset.map_refl

theorem u_cover (i : S512x512.Idx) : i ∈ U00.set ∨ i ∈ U01.set ∨ i ∈ U10.set ∨ i ∈ U11.set ∨ i ∈ U20.set ∨ i ∈ U21.set ∨ i ∈ U30.set ∨ i ∈ U31.set := by
  have h0 : (i 0).val < 512 := (i 0).isLt
  have h1 : (i 1).val < 512 := (i 1).isLt
  simp only [Rect.mem_set_unit, Fin.forall_fin_succ, Fin.forall_fin_zero]
  simp
  omega

theorem step_agree (R : Rect S512x512) (f f' : Vec F S512x512 .f32) (w : Vec F R.shape .f32) (i : S512x512.Idx) (h : i ∉ R.set → f i = f' i) :
    (a2M.access R).write (Elt F) f w Finset.univ i = (a2M.access R).write (Elt F) f' w Finset.univ i :=
  write_agree (a2M.access R) f f' w (by
    by_cases hi : i ∈ R.set
    · exact .inl (by rw [acc2]; exact hi)
    · exact .inr (h hi))

theorem O0_agree (f f' : Vec F S512x512 .f32) (i : S512x512.Idx) (h : i ∉ U00.set → i ∉ U01.set → f i = f' i) : O0 m c f i = O0 m c f' i :=
  step_agree U01 _ _ _ i fun h1 => step_agree U00 _ _ _ i fun h0 => h h0 h1
theorem O1_agree (f f' : Vec F S512x512 .f32) (i : S512x512.Idx) (h : i ∉ U10.set → i ∉ U11.set → f i = f' i) : O1 m c f i = O1 m c f' i :=
  step_agree U11 _ _ _ i fun h1 => step_agree U10 _ _ _ i fun h0 => h h0 h1
theorem O2_agree (f f' : Vec F S512x512 .f32) (i : S512x512.Idx) (h : i ∉ U20.set → i ∉ U21.set → f i = f' i) : O2 m c f i = O2 m c f' i :=
  step_agree U21 _ _ _ i fun h1 => step_agree U20 _ _ _ i fun h0 => h h0 h1
theorem O3_agree (f f' : Vec F S512x512 .f32) (i : S512x512.Idx) (h : i ∉ U30.set → i ∉ U31.set → f i = f' i) : O3 m c f i = O3 m c f' i :=
  step_agree U31 _ _ _ i fun h1 => step_agree U30 _ _ _ i fun h0 => h h0 h1

theorem OUT_base (f f' : Vec F S512x512 .f32) : OUT m c f = OUT m c f' :=
  funext fun i => O3_agree m c _ _ i fun h30 h31 => O2_agree m c _ _ i fun h20 h21 => O1_agree m c _ _ i fun h10 h11 => O0_agree m c _ _ i fun h00 h01 => by
    rcases u_cover i with h | h | h | h | h | h | h | h
    · exact absurd h h00
    · exact absurd h h01
    · exact absurd h h10
    · exact absurd h h11
    · exact absurd h h20
    · exact absurd h h21
    · exact absurd h h30
    · exact absurd h h31

/-- The result block of device `c`. -/
def RES : Vec F S512x512 .f32 := OUT m c (fun _ => base m c)

/-! ## The buffers before and after the region -/

def V₀ : Valuation τ sig (Elt F) := fun b => m (c, b)
def V₁ : Valuation τ sig (Elt F) := StableHlo.after hostOps0 (V₀ m c)
def V₂ : Valuation τ sig (Elt F) := Function.update (V₁ m c) (Proc.devRef .tc main_v3) (RES m c)

theorem V₁_x : V₁ m c (Proc.devRef .tc main_v1) = X m c := rfl
theorem V₁_g : V₁ m c (Proc.devRef .tc main_v2) = G m c := rfl
theorem V₁_arg0 : V₁ m c (Proc.devRef .tc main_arg0) = m ((c : Thread nD τ).loc main_arg0) := V_main_arg0 m c
theorem V₁_arg1 : V₁ m c (Proc.devRef .tc main_arg1) = m ((c : Thread nD τ).loc main_arg1) := V_main_arg1 m c
theorem V₂_res : V₂ m c (Proc.devRef .tc main_v3) = RES m c := Function.update_self ..
theorem V₂_ne (b : Ref sig .tc) (h : b ≠ main_v3) : V₂ m c (Proc.devRef .tc b) = V₁ m c (Proc.devRef .tc b) :=
  Function.update_of_ne (StableHlo.devRef_ne_of_ne h) ..

def bufs : Finset (DevRef τ sig) := (StableHlo.tcRefs τ sig).filter fun b => ¬ b.isScoped
/-- The ones that the kernel reads by itself, and the arguments. -/
def reads : Finset (DevRef τ sig) := {Proc.devRef .tc main_arg0, Proc.devRef .tc main_arg1, Proc.devRef .tc main_v1, Proc.devRef .tc main_v2}

theorem unscopedBufs_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- Holding the buffer `b` whole, at `f`. -/
abbrev bpt (b : Ref sig .tc) (f : Buf (Elt F) ((c : Thread nD τ).loc b)) : sProp 𝕄 := ((c : Thread nD τ).loc b) ↦{fullShare} f

theorem reads_eq (W : Valuation τ sig (Elt F)) : (StableHlo.held (c : Thread nD τ) reads W : sProp 𝕄)
    = iprop(bpt c main_arg0 (W (Proc.devRef .tc main_arg0)) ∗ bpt c main_arg1 (W (Proc.devRef .tc main_arg1))
      ∗ bpt c main_v1 (W (Proc.devRef .tc main_v1)) ∗ bpt c main_v2 (W (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl
theorem arr_eq (W : Valuation τ sig (Elt F)) : (StableHlo.held (c : Thread nD τ) (Pipeline.arrRefs (τ := τ) spec0) W : sProp 𝕄)
    = bpt c main_v3 (W (Proc.devRef .tc main_v3)) := by
  unfold StableHlo.held
  rw [bigSep_eq_bigSepL_of_eq [Proc.devRef .tc main_v3] (by decide) (by decide)]
  rfl
theorem bufs_eq (W : Valuation τ sig (Elt F)) : (StableHlo.held (c : Thread nD τ) bufs W : sProp 𝕄)
    = iprop(bpt c main_v3 (W (Proc.devRef .tc main_v3)) ∗ bpt c main_arg0 (W (Proc.devRef .tc main_arg0)) ∗ bpt c main_arg1 (W (Proc.devRef .tc main_arg1))
      ∗ bpt c main_v1 (W (Proc.devRef .tc main_v1)) ∗ bpt c main_v2 (W (Proc.devRef .tc main_v2))) := by
  unfold StableHlo.held
  rw [bigSep_eq_bigSepL_of_eq [Proc.devRef .tc main_v3, Proc.devRef .tc main_arg0, Proc.devRef .tc main_arg1, Proc.devRef .tc main_v1, Proc.devRef .tc main_v2] (by decide) (by decide)]
  rfl
theorem bufs_split (W : Valuation τ sig (Elt F)) : (StableHlo.held (c : Thread nD τ) bufs W : sProp 𝕄)
    = iprop(StableHlo.held (c : Thread nD τ) (Pipeline.arrRefs (τ := τ) spec0) W ∗ StableHlo.held (c : Thread nD τ) reads W) := by
  rw [bufs_eq, arr_eq, reads_eq]

theorem vpt_whole (b : Ref sig .tc) (f : Buf (Elt F) ((c : Thread nD τ).loc b)) : (vpt (Memref.whole b) c f : sProp 𝕄) = bpt c b f := by
  simp only [vpt, Memref.view_whole, View.set_whole]
theorem any_whole (b : Ref sig .tc) : (iprop(∃ f, vpt (Memref.whole b) c f) : sProp 𝕄) = iprop(∃ f : Buf (Elt F) ((c : Thread nD τ).loc b), bpt c b f) := by
  simp only [vpt, Memref.view_whole, View.set_whole]

theorem sep_eq {P P' Q Q' : sProp 𝕄} (h : P = P') (h' : Q = Q') : iprop(P ∗ Q) = iprop(P' ∗ Q') := by rw [h, h']

theorem scratch_eq : (Pipeline.scopedRest (Ix := Unit) (Name := ℕ) (U := UU) (Lvl := ℕ) (Val := Elt F) spec0 c : sProp 𝕄) = scratch c := by
  rw [scopedRest0_eq]
  unfold scratch
  exact sep_eq (any_whole c cc0_scratch0).symm (sep_eq (any_whole c cc0_scratch1).symm (sep_eq (any_whole c cc0_scratch2).symm (sep_eq (any_whole c cc0_scratch3).symm
    (sep_eq (any_whole c cc0_scratch4).symm (sep_eq (any_whole c cc0_scratch5).symm (sep_eq (any_whole c cc0_scratch6).symm (sep_eq (any_whole c cc0_scratch7).symm
    (sep_eq (any_whole c cc0_scratch8).symm (any_whole c cc0_scratch9).symm))))))))

/-! ## The proof data -/

/-- What enters the region's invariant of the protocol. -/
def Xk : sProp 𝕄 := iprop(∃ K, EnvA m K c ∗ barRights c ∗ sendRights c ∗ waitRights c)

def Φ₀ : sProp 𝕄 := iprop(scratch c ∗ (∃ r, prngReg c r) ∗ StableHlo.held (c : Thread nD τ) reads (V₁ m c) ∗ Xk m c)
def Φ₁ : sProp 𝕄 := iprop(scratch c ∗ (∃ r, prngReg c r) ∗ StableHlo.held (c : Thread nD τ) reads (V₂ m c) ∗ Pipeline.ownSems0 osem c ∗ semVal (barCell c) 0)

def dat : Pipeline.Dat τ (Elt F) Unit ℕ UU ℕ cfg0 c where
  A := fun | 0 => V m c main_v3 | ⟨_ + 1, h⟩ => absurd h (Nat.not_lt.2 (Nat.le_add_left _ _))
  after := fun | 0 => fun _ => RES m c | ⟨_ + 1, h⟩ => absurd h (Nat.not_lt.2 (Nat.le_add_left _ _))
  Φ t := if t.val = 0 then Φ₀ m c else Φ₁ m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m
  | ⟨_ + 1, h⟩ => absurd h (Nat.not_lt.2 (Nat.le_add_left _ _))

theorem owed_zero : (pdats m 0 c).owed 0 = O₀ c := by
  show (if ((0 : Fin (cfg0.N + 1)).val = 0) then O₀ c else 0) = O₀ c; exact if_pos rfl
theorem owed_last : (pdats m 0 c).owed (Fin.last _) = 0 := by
  show (if (Fin.last cfg0.N).val = 0 then O₀ c else 0) = 0
  rw [Fin.val_last, if_neg (by rw [show cfg0.N = 1 from N_0]; decide)]

theorem owes_in {cfg : Pipeline.Cfg sig Λ₀} {c : Dev nD} (dat : Pipeline.Dat τ (Elt F) Unit ℕ UU ℕ cfg c) (t : Fin (cfg.N + 1))
    (O : CellTallies nD τ sig Unit) (h0 : dat.owed t = O) (hr : dat.recorded t = Set.univ) :
    (iprop(∃ W, owes (c : Thread nD τ) O W) : sProp 𝕄) ⊢ dat.owesAt () t := by
  unfold Pipeline.Dat.owesAt Pipeline.owesWithin Pipeline.Dat.bound
  rw [h0, hr]
  iintro ⟨%W, HO⟩
  iexists W
  isplitr
  · ipureintro; exact fun _ _ => Or.inl trivial
  iexact HO
theorem owes_out {cfg : Pipeline.Cfg sig Λ₀} {c : Dev nD} (dat : Pipeline.Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Pipeline.Dat.owesAt Pipeline.owesWithin
  rw [h0]
  iintro ⟨%W, -, HO⟩
  iexists W
  iexact HO

/-! ## The body as the pipeline calls it -/

theorem body_one (f : Vec F S512x512 .f32) :
    iprop(Φ₀ m c ∗ ow c allDebts ∗ vpt a2M c f)
      ⊢ wp frame (wpE (defs₀ (F := F)) 𝒱₀ (c : Thread nD τ) none) Set.univ (run (cc0_body (F := F)))
          fun _ => iprop(Φ₁ m c ∗ ow c [] ∗ vpt a2M c (RES m c)) := by
  unfold Φ₀ Xk
  rw [reads_eq, V₁_x, V₁_g, ← vpt_whole c main_v1, ← vpt_whole c main_v2]
  iintro ⟨⟨Hs, Hp, ⟨Ha0, Ha1, Hx, Hg⟩, ⟨%K, #HA, Hb, Hr, Hw⟩⟩, HO, H2⟩
  iapply (wp_fupd frame (wpE (defs₀ (F := F)) 𝒱₀ (c : Thread nD τ) none) Set.univ)
  iapply (body_run m K c f _) $$ [Hs Hx Hg Hb Hr Hw HO H2]
  · isplitr; · iexact HA
    isplitl [HO]; · iexact HO
    isplitl [Hb]; · iexact Hb
    isplitl [Hr]; · iexact Hr
    isplitl [Hw]; · iexact Hw
    isplitl [Hx]; · iexact Hx
    isplitl [Hg]; · iexact Hg
    isplitl [H2]; · iexact H2
    iexact Hs
  iintro ⟨HO, Hb, Hd, Hx, Hg, H2, Hs⟩
  unfold EnvA
  icases HA with ⟨HI, -, -, -⟩
  imod (close_cells m K c) $$ [Hb Hd] with ⟨Hb0, Hs0⟩
  · isplitr; · iexact HI
    isplitl [Hb] <;> iassumption
  imodintro
  unfold Φ₁ RES
  rw [reads_eq, V₂_ne m c main_arg0 (by decide), V₂_ne m c main_arg1 (by decide), V₂_ne m c main_v1 (by decide), V₂_ne m c main_v2 (by decide), V₁_x, V₁_g,
    ← vpt_whole c main_v1, ← vpt_whole c main_v2, OUT_base m c (fun _ => base m c) f]
  isplitr [HO H2]
  · isplitl [Hs]; · iexact Hs
    isplitl [Hp]; · iexact Hp
    isplitl [Ha0 Ha1 Hx Hg]
    · isplitl [Ha0]; · iexact Ha0
      isplitl [Ha1]; · iexact Ha1
      isplitl [Hx] <;> iassumption
    isplitl [Hs0] <;> iassumption
  isplitl [HO] <;> iassumption

theorem body_eq : defs₀ (F := F) .tc cfg0.body (cfg0.bodyArgs t0_0 (cfg0.slots t0_0)) = run (cc0_body (F := F)) := rfl

theorem body_ob : Pipeline.BodyObligation (dat m c) defs₀ 𝒱₀ () Set.univ := fun t => by
  obtain rfl := fin_N0 t
  rw [bigSep_W0, bigSep_W0]
  rw [show (dat m c).Φ t0_0.castSucc = Φ₀ m c from rfl, show (dat m c).Φ t0_0.succ = Φ₁ m c from rfl, body_eq]
  have hpre : iprop(Φ₀ m c ∗ (dat m c).owesAt () t0_0.castSucc ∗ ∃ d, owns (c : Thread nD τ) a2M fullShare ((dat m c).before 0 t0_0 d))
      ⊢ (iprop(∃ f, Φ₀ m c ∗ ow c allDebts ∗ vpt a2M c f) : sProp 𝕄) := by
    unfold ow
    iintro ⟨HΦ, HO, ⟨%d, H2⟩⟩
    ihave HO := (owes_out (dat m c) t0_0.castSucc (O₀ c) rfl) $$ HO
    ihave H2 := (Entails.of_eq ((owns_whole (Val := Elt F) (c : Thread nD τ) cc0_stg0_0 fullShare _).trans (vpt_whole c cc0_stg0_0 _).symm)) $$ H2
    iexists ((dat m c).before 0 t0_0 d)
    isplitl [HΦ]; · iexact HΦ
    isplitl [HO] <;> iassumption
  have hpost : (iprop(Φ₁ m c ∗ ow c [] ∗ vpt a2M c (RES m c)) : sProp 𝕄)
      ⊢ iprop(Φ₁ m c ∗ (dat m c).owesAt () t0_0.succ ∗ owns (c : Thread nD τ) a2M fullShare (RES m c)) := by
    unfold ow
    rw [show debt c [] = (0 : CellTallies nD τ sig Unit) from rfl]
    iintro ⟨HΦ, HO, H2⟩
    isplitl [HΦ]; · iexact HΦ
    isplitl [HO]
    · iapply (owes_in (dat m c) t0_0.succ 0 rfl rfl)
      iexact HO
    iapply (Entails.of_eq ((owns_whole (Val := Elt F) (c : Thread nD τ) cc0_stg0_0 fullShare _).trans (vpt_whole c cc0_stg0_0 _).symm).symm)
    iexact H2
  have hmid : (iprop(∃ f, Φ₀ m c ∗ ow c allDebts ∗ vpt a2M c f) : sProp 𝕄)
      ⊢ wp frame (wpE (defs₀ (F := F)) 𝒱₀ (c : Thread nD τ) none) Set.univ (run (cc0_body (F := F)))
          fun _ => iprop(Φ₁ m c ∗ ow c [] ∗ vpt a2M c (RES m c)) := by
    iintro ⟨%f, H⟩
    iapply (body_one m c f) $$ H
  exact hpre.trans (hmid.trans (wp_mono _ _ _ fun _ => hpost))

/-! ## The region entered and left -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hopen : iprop(Tk m c ∗ Pipeline.ownSems0 osem c ∗ levAts L lv) ⊢ (|={Set.univ}=> Xk m c : sProp 𝕄) := by
  unfold Tk Xk records linear EnvA barRights barToks
  iintro ⟨⟨⟨%K, ⟨#HI, #HR⟩, ⟨Hat, Ho, Hbt, Ht⟩⟩, Hcb, Hc⟩, Hs, #HL⟩
  imod (open_cells m K c) $$ [Ho Hs] with ⟨Has, #Hrc⟩
  · isplitr; · iexact HI
    isplitl [Ho] <;> iassumption
  imodintro
  ihave H := (rights_make (F := F) c) $$ [Ht Has Hc]
  · isplitl [Ht]; · iexact Ht
    isplitl [Has] <;> iassumption
  icases H with ⟨Hsr, Hwr⟩
  iexists K
  isplitr
  · isplitr; · iexact HI
    isplitr; · iexact HL
    isplitr; · iexact HR
    iexact Hrc
  isplitl [Hat Hbt Hcb]
  · isplitl [Hbt]; · iexact Hbt
    isplitl [Hcb] <;> iassumption
  isplitl [Hsr] <;> iassumption

theorem hin : iprop(Pipeline.scopedRest (Pipeline.pin (pcfgs (F := F)) adm 0).spec c ∗ (∃ r, prngReg c r) ∗ StableHlo.held (c : Thread nD τ) reads (V₁ m c) ∗ Xk m c)
    ⊢ (pdats m 0 c).Φ 0 := by
  rw [show (pdats m 0 c).Φ 0 = Φ₀ m c from rfl]
  exact Entails.of_eq (congrArg (fun P : sProp 𝕄 => iprop(P ∗ (∃ r, prngReg c r) ∗ StableHlo.held (c : Thread nD τ) reads (V₁ m c) ∗ Xk m c)) (scratch_eq c))

theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c : Thread nD τ) reads (V₂ m c)
      ∗ Pipeline.ownSems0 osem c ∗ semVal (barCell c) 0) := by
  rw [show (pdats m 0 c).Φ (Fin.last _) = Φ₁ m c from rfl]
  exact Entails.of_eq (congrArg (fun P : sProp 𝕄 => iprop(P ∗ (∃ r, prngReg c r) ∗ StableHlo.held (c : Thread nD τ) reads (V₂ m c)
    ∗ Pipeline.ownSems0 osem c ∗ semVal (barCell c) 0)) (scratch_eq c).symm)

theorem lvS_pos : ∀ i : Fin 16, 0 < lvS (oSem i) := by decide +kernel

theorem cutD (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · obtain ⟨k, hk, rfl⟩ := debt_pos c _ _ _ h
    exact ⟨by unfold oCell; rw [L_tc]; exact Finset.mem_singleton_self _, lvS_pos k⟩
  · exact absurd h (Nat.lt_irrefl 0)

theorem arr_last : (dat m c).arrAt 0 cfg0.N = RES m c := by
  refine Pipeline.Dat.arrAt_eq_of_after_last (dat m c) 0 t0_0 (by decide +kernel) _ fun j => ?_
  rfl

theorem lvS_stage : ∀ (w : Fin 1) (s : Fin (win0 w).nbuf), lvS (.dma ((win0 w).sem s)) = 0 := by decide +kernel
theorem lv_stage (w : Fin 1) (s : Fin (win0 w).nbuf) : lv ((c : Thread nD τ), SemLoc.dma ((win0 w).sem s)) () = 0 := lvS_stage w s

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide +kernel : Pipeline.OwnSemFacts spec0 osem)
    reads reads (Finset.Subset.refl _) kitP rfl (fun c => (body_ob m c).loose)
    (fun _ => 0) O₀ (fun c => (owed_zero m c).trans (zero_add _).symm) (owed_last m) (fun _ => rfl) (fun _ w => by obtain rfl := Subsingleton.elim w 0; rfl)
    (V₁ m) (V₂ m) (fun _ b hb => absurd hb (by rw [Finset.sdiff_self]; exact Finset.notMem_empty b))
    (Tk m) (fun c => semVal (barCell c) 0) (Xk m) (fun c => semVal (barCell c) 0) (hopen m) (hin m) (hout m)
    (fun c => by iintro H; imodintro; iexact H)
    (fun _ => 0)
    ⟨fun _ _ _ => Finset.mem_singleton_self _, fun c w s => le_of_eq (lv_stage c w s), fun c t g i h => cutD m c t g i h⟩
    (fun _ => iprop(emp))
    (fun c w => by obtain rfl := Subsingleton.elim w 0; rfl) (fun c w => by obtain rfl := Subsingleton.elim w 0; exact (arr_last m c).trans (V₂_res m c).symm)

end Cert.KernelIdeal.Mesh
-- ==== Proof.Run.lean ====
/- The run of the whole kernel on the four devices, for any float values. -/
module

public import proofs.«01_k».proof.Proof.Region
public import Idealize.ShloMosaic.Adequacy
public import Idealize.ShloMosaic.Init

@[expose] public section

set_option maxRecDepth 16384

noncomputable section

namespace Cert.KernelIdeal.Mesh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

variable (ρ : Dev nD → PrngReg)

/-! ## The segments of `main` -/

def Rk : sProp 𝕄 := iprop(Tk m c ∗ (∃ r, prngReg c r) ∗ ∃ W, owes (c : Thread nD τ) (O₀ c) W)

theorem ops_sub : ∀ op ∈ (hostOps0 : List (HloOp τ sig (Elt F))), op.bufs ⊆ bufs := by
  intro op hop
  simp only [hostOps0, List.mem_cons, List.not_mem_nil, or_false] at hop
  rcases hop with rfl | rfl
  · show ({Proc.devRef .tc main_arg0, Proc.devRef .tc main_v1} : Finset (DevRef τ sig)) ⊆ bufs; decide
  · show ({Proc.devRef .tc main_arg1, Proc.devRef .tc main_v2} : Finset (DevRef τ sig)) ⊆ bufs; decide
theorem ops_fresh : ∀ op ∈ (hostOps0 : List (HloOp τ sig (Elt F))), op.fresh = ∅ := by
  intro op hop
  simp only [hostOps0, List.mem_cons, List.not_mem_nil, or_false] at hop
  rcases hop with rfl | rfl <;> rfl

def host : Pipeline.HostSeg (Name := ℕ) (U := UU) (pcfgs (F := F)) defs₀ 𝒱₀ L lv := Pipeline.HostSeg.ofOps _ _ _ _ _ bufs hostOps0 ops_sub ops_fresh (V₀ m) (Rk m)

theorem reg_pre : iprop(StableHlo.held (c : Thread nD τ) bufs (V₁ m c) ∗ Rk m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) reads (V₁ m c) ∗ emp) ∗ Tk m c ∗ ∃ Wd, owes (c : Thread nD τ) (0 + O₀ c) Wd)
  rw [zero_add, bufs_split]
  unfold Rk
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post : (reg m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) reads (V₂ m c) ∗ emp) ∗ semVal (barCell c) 0 ∗ ∃ Wd, owes (c : Thread nD τ) (0 : CellTallies nD τ sig Unit) Wd) ⊢ _
  rw [bufs_split]
  iintro ⟨Ha, -, ⟨Hr, -⟩, Hb, HO⟩
  isplitr [HO]
  · isplitl [Ha Hr]
    · isplitl [Ha] <;> iassumption
    · iexact Hb
  · iexact HO

def segs : List (Pipeline.Seg (pcfgs (F := F)) adm (pdats m) () defs₀ 𝒱₀ L lv) := [.host (host m), .region (reg m)]

theorem main_eq : main (F := F) c = Pipeline.Seg.run (segs m) :=
  main_segs adm (pdats m) () 𝒱₀ L lv (host m) (reg m) rfl c

/-! ## The launch -/

theorem unscopedSems0_eq : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- What a device gets at launch beside the protocol's state. -/
def bundle : sProp 𝕄 :=
  iprop(StableHlo.held (c : Thread nD τ) bufs (V₀ m c) ∗ (cred (tallyAt (barCell c) () 2) ∗ creds c) ∗ owes (c : Thread nD τ) (O₀ c) ∅ ∗ ∃ r, prngReg c r)

abbrev T₀ : sProp 𝕄 := iprop(StableHlo.held (c : Thread nD τ) bufs (V₀ m c) ∗ Rk m c)
abbrev Tₙ : sProp 𝕄 := iprop(StableHlo.held (c : Thread nD τ) bufs (V₂ m c) ∗ semVal (barCell c) 0)

theorem T₀_intro : iprop(records m K ∗ (linear c ∗ bundle m c)) ⊢ T₀ m c := by
  unfold bundle T₀ Rk Tk
  iintro ⟨#HR, Hl, Hh, ⟨H1, H2⟩, HO, Hp⟩
  isplitl [Hh]; · iexact Hh
  isplitl [Hl H1 H2]
  · isplitl [Hl]
    · iexists K
      isplitr; · iexact HR
      iexact Hl
    isplitl [H1] <;> iassumption
  isplitl [Hp]; · iexact Hp
  iexists ∅; iexact HO

theorem core_start : iprop(unscopedBufs c (fun b => m ((c : Thread nD τ).loc b)) ∗ unscopedSems0 c
      ∗ owes (c : Thread nD τ) (O₀ c) ∅ ∗ Pipeline.launchCred O₀ c ∗ prngReg c (ρ c) ∗ Gx c)
    ⊢ (iprop(bundle m c ∗ (semVal (barCell c) 0 ∗ Gx c)) : sProp 𝕄) := by
  rw [show unscopedBufs c (fun b => m ((c : Thread nD τ).loc b)) = StableHlo.held (c : Thread nD τ) bufs (V₀ m c) from unscopedBufs_held c (V₀ m c),
    unscopedSems0_eq]
  unfold bundle
  iintro ⟨Hh, Hus, HO, Hcr, Hp, HG⟩
  ihave Hc := (cred_deal (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gx c)) ∗ levAts L lv)
      ⊢ (|={Set.univ}=> bigSep Finset.univ (T₀ m) : sProp 𝕄) := by
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gx c))
      ⊢ (iprop((bigSep Finset.univ fun c : Dev nD => bundle m c) ∗ (bigSep Finset.univ fun c : Dev nD => semVal (barCell c) 0) ∗ BI.own (ER (launchOf barCells ownCells allToks))) : sProp 𝕄) :=
    by
    rw [← Gx_all, ← bigSep_sep', ← bigSep_sep']
    exact bigSep_mono fun c _ => core_start m c ρ
  have hend (K : GSem nD τ sig → ℕ) : iprop(records m K ∗ (bigSep Finset.univ fun c : Dev nD => linear c) ∗ bigSep Finset.univ fun c : Dev nD => bundle m c)
      ⊢ (bigSep Finset.univ (T₀ m) : sProp 𝕄) :=
    (Entails.of_eq (by rw [← bigSep_sep'])).trans
      (bigSep_with_persistent (R := records m K) (Φ := fun c => iprop(linear c ∗ bundle m c)) fun c _ => T₀_intro m K c)
  iintro ⟨H, -⟩
  ihave H := hall $$ H
  icases H with ⟨HB, Hv, HG⟩
  imod (deal m) $$ [Hv HG] with ⟨%K, HR, Hl⟩
  · isplitl [Hv] <;> iassumption
  imodintro
  iapply (hend K)
  isplitl [HR]; · iexact HR
  isplitl [Hl] <;> iassumption

theorem unscoped_eq : ∀ sm : SemLoc sig, sm.isScoped .tc = false → sm = .reg barS := by decide +kernel

set_option backward.isDefEq.respectTransparency.types false in
/-- Every run from `m` ends, and where it ends every device's arguments are as they were, its result is `RES m c`, and every semaphore is at zero. -/
theorem run_main : θ_run defs (onTc (τ := τ) (main (F := F))) (s₀ m ρ)
    (fun r => (∀ c : Dev nD, r.2.mem ((c : Thread nD τ).loc main_v3) = RES m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := Gx) (u₀ := u₀)
    (hu₀ := by
      unfold u₀
      iintro Hu
      ihave H := (ownU_pair _ _) $$ Hu
      icases H with ⟨HP, HX⟩
      imodintro
      isplitl [HP]; · iexact HP
      rw [Gx_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_v3) = RES m c
        ∧ s.mem ((c : Thread nD τ).loc main_arg0) = m ((c : Thread nD τ).loc main_arg0)
        ∧ s.mem ((c : Thread nD τ).loc main_arg1) = m ((c : Thread nD τ).loc main_arg1)) ∧ s.sem (barCell c) = 0)
    (hfin := fun c s' => by
      dsimp only [Tₙ]
      rw [bufs_eq, V₂_res, V₂_ne m c main_arg0 (by decide), V₂_ne m c main_arg1 (by decide), V₁_arg0, V₁_arg1]
      iintro ⟨⟨⟨Hy, Ha, Hb, -, -⟩, Hz⟩, HSI⟩
      icombine HSI Hy gives %hy
      icombine HSI Ha gives %ha
      icombine HSI Hb gives %hb
      icombine HSI Hz gives %hz
      imodintro
      isplitr
      · ipureintro
        exact ⟨⟨Buf.eq_of_forall_mem_univ hy, Buf.eq_of_forall_mem_univ ha, Buf.eq_of_forall_mem_univ hb⟩, by simpa using hz⟩
      iexact HSI)
    (hQ := fun s h hs => ⟨fun c => (h c).1,
      sem_eq_zero hs fun c sm hsm => by
        obtain rfl := unscoped_eq sm hsm
        exact (h c).2⟩)

end Cert.KernelIdeal.Mesh
-- ==== Proof.Frames.lean ====
/- What the run says of the two kernel programs and of the reference: they end, the arguments are as they were, every semaphore is at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run

@[expose] public section

set_option maxRecDepth 16384

noncomputable section

namespace Cert.Proof

open Idealize.ShloMosaic Idealize.ShloMosaic.TcCoe Idealize.SL.Sem

theorem frame_kernelIdeal : Cert.quiescent_KernelIdeal (hKernelIdeal := Cert.KernelIdeal.Gen.facts) := fun m ρ _ =>
  (θ_run (Cert.KernelIdeal.defs (F := Ideal)) _ _).mono (fun _ h => ⟨fun c => (h.1 c).2, h.2⟩) (Cert.KernelIdeal.Mesh.run_main (F := Ideal) m ρ)

/-! ## The kernel as given

Its text is that of its reading over the reals. -/

theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

theorem defs_eq : Cert.Kernel.defs (F := Bits) = Cert.KernelIdeal.defs (F := Bits) :=
  congrArg (Pipeline.defs (Cert.Kernel.pcfgs (F := Bits))) bodies_eq

/-- The run once more, with words for float values. -/
theorem frame_kernel : Cert.quiescent_Kernel (hKernel := Cert.Kernel.Gen.facts) := fun m ρ _ => by
  rw [defs_eq]
  exact (θ_run (Cert.KernelIdeal.defs (F := Bits)) _ _).mono (fun _ h => ⟨fun c => (h.1 c).2, h.2⟩) (Cert.KernelIdeal.Mesh.run_main (F := Bits) m ρ)

/-- The reference runs on one device and has no semaphore. -/
theorem frame_reference : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

end Cert.Proof

end
-- ==== Proof.Slices.lean ====
/- What the buffers of the exchange hold, entry by entry: each slice of a device's partial sums as a block of them, and the sums that a device
   sends on and keeps as sums of two such blocks. -/
module

public import proofs.«01_k».proof.Proof.Run

@[expose] public section

set_option maxRecDepth 16384

noncomputable section

namespace Cert.KernelIdeal.Mesh

open Idealize.ShloMosaic Idealize.ShloMosaic.TcCoe Idealize.ShloMosaic.Tactic
open Cert.KernelIdeal Cert.KernelIdeal.Gen

variable {F : FTy → Type} [FloatOps F]
variable (m : (ℓ : Loc nD τ sig) → Buf (Elt F) ℓ) (c : Dev nD)

/-! ## Where each slice begins -/

theorem off1_eq : ∀ c : Dev nD, k0_off1 c = ![512 * (r c).val, 0] := by decide +kernel
theorem off2_eq : ∀ c : Dev nD, k0_off2 c = ![512 * (q c).val, 256] := by decide +kernel
theorem off3_eq : ∀ c : Dev nD, k0_off3 c = ![512 * c.val, 0] := by decide +kernel
theorem off40_eq : ∀ c : Dev nD, k0_off4 c 0#32 = ![512 * (r (q c)).val, 0] := by decide +kernel
theorem off41_eq : ∀ c : Dev nD, k0_off4 c 256#32 = ![512 * (r (q c)).val + 256, 0] := by decide +kernel
theorem off50_eq : ∀ c : Dev nD, k0_off5 c 0#32 = ![512 * (q (r c)).val, 256] := by decide +kernel
theorem off51_eq : ∀ c : Dev nD, k0_off5 c 256#32 = ![512 * (q (r c)).val + 256, 256] := by decide +kernel
theorem off6_eq : ∀ c : Dev nD, k0_off6 c = ![512 * (q c).val, 0] := by decide +kernel
theorem off7_eq : ∀ c : Dev nD, k0_off7 c = ![512 * (r c).val, 256] := by decide +kernel

/-! ## The blocks of the partial sums -/

/-- Row `i` of a half of 256 rows, in the first half and in the second half of 512; likewise a column. -/
def lo (j : Fin 256) : Fin 512 := ⟨j.val, by omega⟩
def hi (j : Fin 256) : Fin 512 := ⟨256 + j.val, by omega⟩

/-- Device `d`'s partial sums for the rows that device `e` ends up with. -/
def blk (d e : Dev nD) (i j : Fin 512) : Elt F .f32 :=
  X m d (ix2 (n0 := 2048) (n1 := 512) ⟨512 * e.val + i.val, by have : e.val < 4 := e.isLt; omega⟩ j)

/-- An entry of the slice that begins at `off` is the entry of the whole so much further on. -/
theorem slice_apply (d e : Dev nD) (s : Fin 2 → Nat) (off : Fin 2 → Nat) (inb) (h)
    (t : Fin 2 → Nat) (x : (⟨2, s⟩ : Shape).Idx) (i j : Fin 512) (ht : off = t) (h0 : t 0 + (x 0).val = 512 * e.val + i.val) (h1 : t 1 + (x 1).val = j.val) :
    (a0M.slice (Rect.unit (s := S2048x512) off s inb) h).view.read (Elt F) (X m d) x = blk m d e i j := by
  subst ht
  refine congrArg (X m d) (funext fun a => Fin.ext ?_)
  match a with
  | ⟨0, _⟩ => exact (congrArg (off 0 + ·) (Nat.one_mul _)).trans h0
  | ⟨1, _⟩ => exact (congrArg (off 1 + ·) (Nat.one_mul _)).trans h1

theorem OWN_apply (i j : Fin 512) : OWN m c (ix2 (n0 := 512) (n1 := 512) i j) = blk m c c i j :=
  slice_apply m c c _ _ _ _ _ (ix2 i j) i j (off3_eq c) rfl (Nat.zero_add _)
theorem FA_apply (i : Fin 512) (j : Fin 256) : FA m c (ix2 (n0 := 512) (n1 := 256) i j) = blk m c (r c) i (lo j) :=
  slice_apply m c (r c) _ _ _ _ _ (ix2 i j) i (lo j) (off1_eq c) rfl (Nat.zero_add _)
theorem FB_apply (i : Fin 512) (j : Fin 256) : FB m c (ix2 (n0 := 512) (n1 := 256) i j) = blk m c (q c) i (hi j) :=
  slice_apply m c (q c) _ _ _ _ _ (ix2 i j) i (hi j) (off2_eq c) rfl rfl
theorem XA0_apply (i j : Fin 256) : XA0 m c (ix2 (n0 := 256) (n1 := 256) i j) = blk m c (r (q c)) (lo i) (lo j) :=
  slice_apply m c (r (q c)) _ _ _ _ _ (ix2 i j) (lo i) (lo j) (off40_eq c) rfl (Nat.zero_add _)
theorem XA1_apply (i j : Fin 256) : XA1 m c (ix2 (n0 := 256) (n1 := 256) i j) = blk m c (r (q c)) (hi i) (lo j) :=
  slice_apply m c (r (q c)) _ _ _ _ _ (ix2 i j) (hi i) (lo j) (off41_eq c) (Nat.add_assoc _ _ _) (Nat.zero_add _)
theorem XA2_apply (i : Fin 512) (j : Fin 256) : XA2 m c (ix2 (n0 := 512) (n1 := 256) i j) = blk m c (q c) i (lo j) :=
  slice_apply m c (q c) _ _ _ _ _ (ix2 i j) i (lo j) (off6_eq c) rfl (Nat.zero_add _)
theorem XB0_apply (i j : Fin 256) : XB0 m c (ix2 (n0 := 256) (n1 := 256) i j) = blk m c (q (r c)) (lo i) (hi j) :=
  slice_apply m c (q (r c)) _ _ _ _ _ (ix2 i j) (lo i) (hi j) (off50_eq c) rfl rfl
theorem XB1_apply (i j : Fin 256) : XB1 m c (ix2 (n0 := 256) (n1 := 256) i j) = blk m c (q (r c)) (hi i) (hi j) :=
  slice_apply m c (q (r c)) _ _ _ _ _ (ix2 i j) (hi i) (hi j) (off51_eq c) (Nat.add_assoc _ _ _) rfl
theorem XB2_apply (i : Fin 512) (j : Fin 256) : XB2 m c (ix2 (n0 := 512) (n1 := 256) i j) = blk m c (r c) i (hi j) :=
  slice_apply m c (r c) _ _ _ _ _ (ix2 i j) i (hi j) (off7_eq c) rfl rfl

/-! ## A leading axis of one, put on and taken off -/

theorem V1_cast (w : Vec F S256x256 .f32) : shapeCast S256x256 (V1 w) shapeCasts_S1x256x256_S256x256 = w :=
  funext fun j => congrArg w (Equiv.symm_apply_apply _ j)
theorem V3_cast (w : Vec F S512x256 .f32) : shapeCast S512x256 (V3 w) shapeCasts_S1x512x256_S512x256 = w :=
  funext fun j => congrArg w (Equiv.symm_apply_apply _ j)
theorem cast_slab {α : Type} {n k : Nat} (w : (⟨2, ![n, k]⟩ : Shape).Idx → α) (h : (⟨2, ![n, k]⟩ : Shape).ShapeCasts ⟨3, ![1, n, k]⟩) (i : Fin n) (j : Fin k) :
    shapeCast ⟨3, ![1, n, k]⟩ w h (ix3 0 i j) = w (ix2 i j) :=
  congrArg w (Shape.reshapeEquiv_eq_of_vals h _ _ _ _ (rowMajor_val2 _ k rfl) (rowMajor_val3 _ (n * k) k rfl rfl) (by simp))
theorem slab_cast {α : Type} {n k : Nat} (w : (⟨3, ![1, n, k]⟩ : Shape).Idx → α) (h : (⟨3, ![1, n, k]⟩ : Shape).ShapeCasts ⟨2, ![n, k]⟩) (i : Fin n) (j : Fin k) :
    shapeCast ⟨2, ![n, k]⟩ w h (ix2 i j) = w (ix3 0 i j) :=
  congrArg w (Shape.reshapeEquiv_eq_of_vals h _ _ _ _ (rowMajor_val3 _ (n * k) k rfl rfl) (rowMajor_val2 _ k rfl) (by simp))

/-! ## Where the entries of a rectangle lie -/

theorem unit_emb2 {d : Fin 2 → Nat} (off size : Fin 2 → Nat) (inb) (x : (⟨2, size⟩ : Shape).Idx) (y : (⟨2, d⟩ : Shape).Idx)
    (h0 : off 0 + (x 0).val = (y 0).val) (h1 : off 1 + (x 1).val = (y 1).val) : (Rect.unit (s := ⟨2, d⟩) off size inb).emb x = y :=
  funext fun a => Fin.ext (match a with
    | ⟨0, _⟩ => (congrArg (off 0 + ·) (Nat.one_mul _)).trans h0
    | ⟨1, _⟩ => (congrArg (off 1 + ·) (Nat.one_mul _)).trans h1)
theorem unit_emb3 {d : Fin 3 → Nat} (off size : Fin 3 → Nat) (inb) (x : (⟨3, size⟩ : Shape).Idx) (y : (⟨3, d⟩ : Shape).Idx)
    (h0 : off 0 + (x 0).val = (y 0).val) (h1 : off 1 + (x 1).val = (y 1).val) (h2 : off 2 + (x 2).val = (y 2).val) :
    (Rect.unit (s := ⟨3, d⟩) off size inb).emb x = y :=
  funext fun a => Fin.ext (match a with
    | ⟨0, _⟩ => (congrArg (off 0 + ·) (Nat.one_mul _)).trans h0
    | ⟨1, _⟩ => (congrArg (off 1 + ·) (Nat.one_mul _)).trans h1
    | ⟨2, _⟩ => (congrArg (off 2 + ·) (Nat.one_mul _)).trans h2)

/-- A buffer written whole through a view holds what was written, -/
theorem write_hit {sp : Space} {s : Shape} {e : EltTy} (v : View sig .tc sp s e) (f : v.ty.Contents (Elt F)) (w : s.Idx → Elt F e)
    {x : s.Idx} {y : v.ty.Idx} (h : v.emb x = y) : v.write (Elt F) f w Finset.univ y = _root_.cast (congrArg (Elt F) v.elt_eq.symm) (w x) := by
  subst h
  exact View.write_emb_of_mem f w (Finset.mem_univ x)
/-- and elsewhere what it held. -/
theorem write_miss {sp : Space} {s : Shape} {e : EltTy} (v : View sig .tc sp s e) (f : v.ty.Contents (Elt F)) (w : s.Idx → Elt F e)
    {y : v.ty.Idx} (h : y ∉ v.set) : v.write (Elt F) f w Finset.univ y = f y :=
  View.write_of_not_mem f w Finset.univ h

theorem half (i : Fin 512) : (∃ k, i = lo k) ∨ ∃ k, i = hi k := by
  by_cases h : i.val < 256
  · exact .inl ⟨⟨i.val, h⟩, rfl⟩
  · exact .inr ⟨⟨i.val - 256, by omega⟩, Fin.ext (by show i.val = 256 + (i.val - 256); omega)⟩

theorem emb_H0 (i j : Fin 256) : H0.emb (ix2 (n0 := 256) (n1 := 256) i j) = ix2 (n0 := 512) (n1 := 256) (lo i) j :=
  unit_emb2 _ _ _ (ix2 i j) _ (Nat.zero_add _) (Nat.zero_add _)
theorem emb_H1 (i j : Fin 256) : H1.emb (ix2 (n0 := 256) (n1 := 256) i j) = ix2 (n0 := 512) (n1 := 256) (hi i) j :=
  unit_emb2 _ _ _ (ix2 i j) _ rfl (Nat.zero_add _)
theorem emb_C0 (i : Fin 512) (j : Fin 256) : C0.emb (ix2 (n0 := 512) (n1 := 256) i j) = ix2 (n0 := 512) (n1 := 512) i (lo j) :=
  unit_emb2 _ _ _ (ix2 i j) _ (Nat.zero_add _) (Nat.zero_add _)
theorem emb_C1 (i : Fin 512) (j : Fin 256) : C1.emb (ix2 (n0 := 512) (n1 := 256) i j) = ix2 (n0 := 512) (n1 := 512) i (hi j) :=
  unit_emb2 _ _ _ (ix2 i j) _ (Nat.zero_add _) rfl
theorem emb_DD (i : Fin 512) (j : Fin 256) : DD.emb (ix3 (n0 := 1) (n1 := 512) (n2 := 256) 0 i j) = ix3 (n0 := 2) (n1 := 512) (n2 := 256) 0 i j :=
  unit_emb3 _ _ _ (ix3 0 i j) _ rfl (Nat.zero_add _) (Nat.zero_add _)
theorem lo_H1 (i j : Fin 256) : ix2 (n0 := 512) (n1 := 256) (lo i) j ∉ H1.set := fun h => by
  have h0 : 256 ≤ i.val := (Rect.mem_set_unit.mp h 0).1
  omega

/-! ## The payloads, as sums -/

theorem pay1_eq (v w : Vec F S256x256 .f32) : k0_pay1 (V1 v) w = addf v w :=
  (shapeCast_id _ _).trans (congrArg (addf · w) (V1_cast v))
theorem pay3_eq (v w : Vec F S256x256 .f32) : k0_pay3 (k0_pay2 (V1 v)) w = addf v w :=
  (shapeCast_id _ _).trans (congrArg (addf · w) (V1_cast v))
theorem pay4_eq (v w : Vec F S256x256 .f32) : k0_pay4 (V1 v) w = addf v w :=
  (shapeCast_id _ _).trans (congrArg (addf · w) (V1_cast v))
theorem pay5_eq (v w : Vec F S256x256 .f32) : k0_pay5 (V1 v) w = addf v w :=
  (shapeCast_id _ _).trans (congrArg (addf · w) (V1_cast v))
theorem pay6_apply (v w : Vec F S512x256 .f32) (i : Fin 512) (j : Fin 256) :
    k0_pay6 (V3 v) w (ix3 (n0 := 1) (n1 := 512) (n2 := 256) 0 i j) = FloatOps.addf (v (ix2 (n0 := 512) (n1 := 256) i j)) (w (ix2 (n0 := 512) (n1 := 256) i j)) :=
  (cast_slab (addf (shapeCast S512x256 (V3 v) shapeCasts_S1x512x256_S512x256) w) shapeCasts_S512x256_S1x512x256 i j).trans
    (congrArg (fun u : Vec F S512x256 .f32 => addf u w (ix2 (n0 := 512) (n1 := 256) i j)) (V3_cast v))
theorem pay8_apply (v w : Vec F S512x256 .f32) (i : Fin 512) (j : Fin 256) :
    k0_pay8 (k0_pay7 (V3 v) w) (ix3 (n0 := 1) (n1 := 512) (n2 := 256) 0 i j) = FloatOps.addf (v (ix2 (n0 := 512) (n1 := 256) i j)) (w (ix2 (n0 := 512) (n1 := 256) i j)) :=
  (cast_slab (addf (shapeCast S512x256 (V3 v) shapeCasts_S1x512x256_S512x256) w) shapeCasts_S512x256_S1x512x256 i j).trans
    (congrArg (fun u : Vec F S512x256 .f32 => addf u w (ix2 (n0 := 512) (n1 := 256) i j)) (V3_cast v))

/-! ## What a device sends on, and what it keeps -/

theorem SA2_apply (i : Fin 512) (j : Fin 256) :
    SA2 m c (ix2 (n0 := 512) (n1 := 256) i j) = FloatOps.addf (blk m (q c) (r c) i (lo j)) (blk m c (r c) i (lo j)) := by
  unfold SA2
  rw [pay1_eq, pay4_eq]
  rcases half i with ⟨k, rfl⟩ | ⟨k, rfl⟩
  · refine (write_miss (a5M.access H1) _ _ (by rw [acc_set]; exact fun h => lo_H1 k j (by simpa using h))).trans ?_
    refine (write_hit (a5M.access H0) _ _ (emb_H0 k j)).trans ?_
    exact congrArg₂ FloatOps.addf ((XA0_apply m (q c) k j).trans (by rw [q_q])) ((congrArg (FA m c) (emb_H0 k j)).trans (FA_apply m c _ j))
  · refine (write_hit (a5M.access H1) _ _ (emb_H1 k j)).trans ?_
    exact congrArg₂ FloatOps.addf ((XA1_apply m (q c) k j).trans (by rw [q_q])) ((congrArg (FA m c) (emb_H1 k j)).trans (FA_apply m c _ j))
theorem SB2_apply (i : Fin 512) (j : Fin 256) :
    SB2 m c (ix2 (n0 := 512) (n1 := 256) i j) = FloatOps.addf (blk m (r c) (q c) i (hi j)) (blk m c (q c) i (hi j)) := by
  unfold SB2
  rw [pay3_eq, pay5_eq]
  rcases half i with ⟨k, rfl⟩ | ⟨k, rfl⟩
  · refine (write_miss (a6M.access H1) _ _ (by rw [acc_set]; exact fun h => lo_H1 k j (by simpa using h))).trans ?_
    refine (write_hit (a6M.access H0) _ _ (emb_H0 k j)).trans ?_
    exact congrArg₂ FloatOps.addf ((XB0_apply m (r c) k j).trans (by rw [r_r])) ((congrArg (FB m c) (emb_H0 k j)).trans (FB_apply m c _ j))
  · refine (write_hit (a6M.access H1) _ _ (emb_H1 k j)).trans ?_
    exact congrArg₂ FloatOps.addf ((XB1_apply m (r c) k j).trans (by rw [r_r])) ((congrArg (FB m c) (emb_H1 k j)).trans (FB_apply m c _ j))

theorem YA_apply (i : Fin 512) (j : Fin 256) :
    YA m c (ix3 (n0 := 2) (n1 := 512) (n2 := 256) 0 i j) = FloatOps.addf (blk m (q c) c i (lo j)) (blk m c c i (lo j)) :=
  (write_hit (a3M.access DD) _ _ (emb_DD i j)).trans ((pay6_apply _ _ i j).trans
    (congrArg₂ FloatOps.addf ((XA2_apply m (q c) i j).trans (by rw [q_q])) ((congrArg (OWN m c) (emb_C0 i j)).trans (OWN_apply m c _ _))))
theorem YB_apply (i : Fin 512) (j : Fin 256) :
    YB m c (ix3 (n0 := 2) (n1 := 512) (n2 := 256) 0 i j) = FloatOps.addf (blk m (r c) c i (hi j)) (blk m c c i (hi j)) :=
  (write_hit (a4M.access DD) _ _ (emb_DD i j)).trans ((pay8_apply _ _ i j).trans
    (congrArg₂ FloatOps.addf ((XB2_apply m (r c) i j).trans (by rw [r_r])) ((congrArg (OWN m c) (emb_C1 i j)).trans (OWN_apply m c _ _))))

end Cert.KernelIdeal.Mesh
-- ==== Proof.Equation.lean ====
/- The arithmetic behind the normalisation: over the extended reals, scaling by the reciprocal square root of a positive number is dividing by
   its square root, and a mean of squares with a positive number added is positive. -/
module

public import Idealize.ShloMosaic.PureOps
public import Idealize.ShloMosaic.Lib.Pointwise.Tactic
public import Mathlib.Data.EReal.Inv

@[expose] public section

noncomputable section

namespace Cert.Norm

open Idealize.ShloMosaic
open scoped BigOperators

/-- The length of a row, and the small number that is added to the mean of the squares, as the two programs spell them. -/
abbrev len : EReal := Ideal.ofBits .f32 0x44000000#32
abbrev tiny : EReal := Ideal.ofBits .f32 0x358637BD#32

theorem len_eq : len = ((512 : ℝ) : EReal) := by
  simp [len, Ideal.ofBits, Ideal.ieee]
  norm_num
  rw [← EReal.coe_mul, EReal.coe_eq_coe_iff]
  norm_num
theorem tiny_pos : 0 < tiny := by
  simp [tiny, Ideal.ofBits, Ideal.ieee]
  norm_num
  rw [← EReal.coe_mul, EReal.coe_pos]
  norm_num

theorem sq_nonneg (x : EReal) : 0 ≤ x * x := by
  induction x with
  | bot => simp
  | top => simp
  | coe r => exact_mod_cast mul_self_nonneg r

theorem mul_rsqrt (a s : EReal) (hs : 0 < s) : a * Ideal.rsqrt s = Ideal.div a (Ideal.sqrt s) := by
  induction s with
  | bot => exact absurd hs (by simp)
  | top => simp [Ideal.div]
  | coe t =>
    have ht : 0 < t := by exact_mod_cast hs
    have h0 : ((Real.sqrt t : ℝ) : EReal) ≠ 0 := by exact_mod_cast (Real.sqrt_pos.mpr ht).ne'
    rw [Ideal.rsqrt_coe, Ideal.sqrt_coe, if_neg ht.not_gt, if_neg ht.not_gt, if_neg ht.ne', Ideal.div, if_neg h0, EReal.coe_inv]

/-- What a row's mean of squares comes to with the small number added. -/
def mean (x : Fin 512 → EReal) : EReal := Ideal.div (∑ k, x k * x k) len + tiny

theorem mean_pos (x : Fin 512 → EReal) : 0 < mean x := by
  have h : 0 ≤ Ideal.div (∑ k, x k * x k) len := by
    rw [len_eq, Ideal.div_coe (by norm_num)]
    exact mul_nonneg (Finset.sum_nonneg fun k _ => sq_nonneg _) (by exact_mod_cast (by norm_num : (0 : ℝ) ≤ 1 / 512))
  calc (0 : EReal) < tiny := tiny_pos
    _ = 0 + tiny := (zero_add _).symm
    _ ≤ _ := add_le_add_left h _

/-- A row normalised as the kernel does it, and as the reference does it. -/
theorem scale_eq (x : Fin 512 → EReal) (a g : EReal) : a * Ideal.rsqrt (mean x) * g = Ideal.div a (Ideal.sqrt (mean x)) * g := by
  rw [mul_rsqrt a _ (mean_pos x)]

/-- A sum over a row is the sum over its first half and the sum over its second. -/
theorem sum_halves (f : Fin 512 → EReal) (l h : Fin 256 → Fin 512) (hl : ∀ k, (l k).val = k.val) (hh : ∀ k, (h k).val = 256 + k.val) :
    (∑ k, f (l k)) + ∑ k, f (h k) = ∑ k, f k := by
  rw [show (∑ k : Fin 512, f k) = ∑ k : Fin (256 + 256), f k from rfl, Fin.sum_univ_add]
  congr 1
  · exact Finset.sum_congr rfl fun k _ => congrArg f (Fin.ext (hl k))
  · exact Finset.sum_congr rfl fun k _ => congrArg f (Fin.ext (hh k))

end Cert.Norm
-- ==== Proof.Blocks.lean ====
/- The result block of a device, entry by entry, over the extended reals: the sum over the devices of their partial sums at that entry, times the
   reciprocal square root of its row's mean of squares, times the weight of its column. -/
module

public import proofs.«01_k».proof.Proof.Slices
public import proofs.«01_k».proof.Proof.Equation

@[expose] public section

set_option maxRecDepth 16384

noncomputable section

namespace Cert.KernelIdeal.Mesh

open Idealize.ShloMosaic Idealize.ShloMosaic.TcCoe Idealize.ShloMosaic.Tactic
open Cert.KernelIdeal Cert.KernelIdeal.Gen
open scoped BigOperators

variable (m : (ℓ : Loc nD τ sig) → Buf (Elt Ideal) ℓ) (c : Dev nD)

/-! ## The total over the devices -/

/-- The sum of the devices' partial sums at an entry of device `c`'s block. -/
def tot (i j : Fin 512) : EReal := ∑ d : Dev nD, (blk (F := Ideal) m d c i j : EReal)

theorem tot_a (i j : Fin 512) : ((blk m (q c) c i j : EReal) + blk m c c i j) + ((blk m (q (r c)) c i j : EReal) + blk m (r c) c i j) = tot m c i j := by
  have h : tot m c i j = (blk m 0 c i j : EReal) + blk m 1 c i j + blk m 2 c i j + blk m 3 c i j := Fin.sum_univ_four _
  rw [h]
  generalize hb : (fun d : Dev nD => (blk m d c i j : EReal)) = b
  have e : ∀ d, blk m d c i j = b d := fun d => congrFun hb d
  simp only [e]
  clear h hb e
  have hc : c = 0 ∨ c = 1 ∨ c = 2 ∨ c = 3 := by revert c; decide
  rcases hc with rfl | rfl | rfl | rfl
  · show b 1 + b 0 + (b 2 + b 3) = _; abel
  · show b 0 + b 1 + (b 3 + b 2) = _; abel
  · show b 3 + b 2 + (b 0 + b 1) = _; abel
  · show b 2 + b 3 + (b 1 + b 0) = _; abel
theorem tot_b (i j : Fin 512) : ((blk m (r c) c i j : EReal) + blk m c c i j) + ((blk m (r (q c)) c i j : EReal) + blk m (q c) c i j) = tot m c i j := by
  have h : r (q c) = q (r c) := by revert c; decide
  rw [h, ← tot_a]
  abel

/-! ## The quarters of the rows -/

/-- Row `i` of the `k`-th group of 128 rows. -/
def qr (k : Fin 4) (i : Fin 128) : Fin 512 := ⟨128 * k.val + i.val, by omega⟩

theorem quarter (i : Fin 512) : ∃ k t, i = qr k t :=
  ⟨⟨i.val / 128, by omega⟩, ⟨i.val % 128, by omega⟩, Fin.ext (Nat.div_add_mod _ _).symm⟩

variable (i : Fin 128) (j : Fin 256)

theorem emb_E0 : E0.emb (ix3 (n0 := 1) (n1 := 128) (n2 := 256) 0 i j) = ix3 (n0 := 2) (n1 := 512) (n2 := 256) 0 (qr 0 i) j :=
  unit_emb3 _ _ _ (ix3 0 i j) _ rfl rfl (Nat.zero_add _)
theorem emb_E1 : E1.emb (ix3 (n0 := 1) (n1 := 128) (n2 := 256) 0 i j) = ix3 (n0 := 2) (n1 := 512) (n2 := 256) 0 (qr 1 i) j :=
  unit_emb3 _ _ _ (ix3 0 i j) _ rfl rfl (Nat.zero_add _)
theorem emb_E2 : E2.emb (ix3 (n0 := 1) (n1 := 128) (n2 := 256) 0 i j) = ix3 (n0 := 2) (n1 := 512) (n2 := 256) 0 (qr 2 i) j :=
  unit_emb3 _ _ _ (ix3 0 i j) _ rfl rfl (Nat.zero_add _)
theorem emb_E3 : E3.emb (ix3 (n0 := 1) (n1 := 128) (n2 := 256) 0 i j) = ix3 (n0 := 2) (n1 := 512) (n2 := 256) 0 (qr 3 i) j :=
  unit_emb3 _ _ _ (ix3 0 i j) _ rfl rfl (Nat.zero_add _)
theorem emb_Q0 : Q0.emb (ix2 (n0 := 128) (n1 := 256) i j) = ix2 (n0 := 512) (n1 := 256) (qr 0 i) j :=
  unit_emb2 _ _ _ (ix2 i j) _ rfl (Nat.zero_add _)
theorem emb_Q1 : Q1.emb (ix2 (n0 := 128) (n1 := 256) i j) = ix2 (n0 := 512) (n1 := 256) (qr 1 i) j :=
  unit_emb2 _ _ _ (ix2 i j) _ rfl (Nat.zero_add _)
theorem emb_Q2 : Q2.emb (ix2 (n0 := 128) (n1 := 256) i j) = ix2 (n0 := 512) (n1 := 256) (qr 2 i) j :=
  unit_emb2 _ _ _ (ix2 i j) _ rfl (Nat.zero_add _)
theorem emb_Q3 : Q3.emb (ix2 (n0 := 128) (n1 := 256) i j) = ix2 (n0 := 512) (n1 := 256) (qr 3 i) j :=
  unit_emb2 _ _ _ (ix2 i j) _ rfl (Nat.zero_add _)
theorem emb_U00 : U00.emb (ix2 (n0 := 128) (n1 := 256) i j) = ix2 (n0 := 512) (n1 := 512) (qr 0 i) (lo j) :=
  unit_emb2 _ _ _ (ix2 i j) _ rfl (Nat.zero_add _)
theorem emb_U01 : U01.emb (ix2 (n0 := 128) (n1 := 256) i j) = ix2 (n0 := 512) (n1 := 512) (qr 0 i) (hi j) :=
  unit_emb2 _ _ _ (ix2 i j) _ rfl rfl
theorem emb_U10 : U10.emb (ix2 (n0 := 128) (n1 := 256) i j) = ix2 (n0 := 512) (n1 := 512) (qr 1 i) (lo j) :=
  unit_emb2 _ _ _ (ix2 i j) _ rfl (Nat.zero_add _)
theorem emb_U11 : U11.emb (ix2 (n0 := 128) (n1 := 256) i j) = ix2 (n0 := 512) (n1 := 512) (qr 1 i) (hi j) :=
  unit_emb2 _ _ _ (ix2 i j) _ rfl rfl
theorem emb_U20 : U20.emb (ix2 (n0 := 128) (n1 := 256) i j) = ix2 (n0 := 512) (n1 := 512) (qr 2 i) (lo j) :=
  unit_emb2 _ _ _ (ix2 i j) _ rfl (Nat.zero_add _)
theorem emb_U21 : U21.emb (ix2 (n0 := 128) (n1 := 256) i j) = ix2 (n0 := 512) (n1 := 512) (qr 2 i) (hi j) :=
  unit_emb2 _ _ _ (ix2 i j) _ rfl rfl
theorem emb_U30 : U30.emb (ix2 (n0 := 128) (n1 := 256) i j) = ix2 (n0 := 512) (n1 := 512) (qr 3 i) (lo j) :=
  unit_emb2 _ _ _ (ix2 i j) _ rfl (Nat.zero_add _)
theorem emb_U31 : U31.emb (ix2 (n0 := 128) (n1 := 256) i j) = ix2 (n0 := 512) (n1 := 512) (qr 3 i) (hi j) :=
  unit_emb2 _ _ _ (ix2 i j) _ rfl rfl
theorem emb_G0 : G0.emb (ix2 (n0 := 1) (n1 := 256) 0 j) = ix2 (n0 := 1) (n1 := 512) 0 (lo j) :=
  unit_emb2 _ _ _ (ix2 0 j) _ rfl (Nat.zero_add _)
theorem emb_G1 : G1.emb (ix2 (n0 := 1) (n1 := 256) 0 j) = ix2 (n0 := 1) (n1 := 512) 0 (hi j) :=
  unit_emb2 _ _ _ (ix2 0 j) _ rfl rfl

/-! ## The totals, as the kernel computes them in each group of rows -/

/-- What a payload that adds a quarter of a device's own sums and its partner's comes to. -/
def quart (v : Vec Ideal S1x128x256 .f32) (w : Vec Ideal S128x256 .f32) : FVec Ideal S128x256 .f32 := addf (shapeCast S128x256 v shapeCasts_S1x128x256_S128x256) w

theorem quart_a (v : Vec Ideal S1x128x256 .f32) (w : Vec Ideal S128x256 .f32) (k : Fin 4) (i : Fin 128) (j : Fin 256)
    (hv : v (ix3 (n0 := 1) (n1 := 128) (n2 := 256) 0 i j) = YA m c (ix3 (n0 := 2) (n1 := 512) (n2 := 256) 0 (qr k i) j))
    (hw : w (ix2 (n0 := 128) (n1 := 256) i j) = SA2 m (r c) (ix2 (n0 := 512) (n1 := 256) (qr k i) j)) :
    quart v w (ix2 (n0 := 128) (n1 := 256) i j) = tot m c (qr k i) (lo j) := by
  refine (congrArg (fun z : EReal => z + w (ix2 (n0 := 128) (n1 := 256) i j)) (slab_cast v shapeCasts_S1x128x256_S128x256 i j)).trans ?_
  rw [hv, hw, YA_apply, SA2_apply, r_r]
  exact tot_a m c _ _
theorem quart_b (v : Vec Ideal S1x128x256 .f32) (w : Vec Ideal S128x256 .f32) (k : Fin 4) (i : Fin 128) (j : Fin 256)
    (hv : v (ix3 (n0 := 1) (n1 := 128) (n2 := 256) 0 i j) = YB m c (ix3 (n0 := 2) (n1 := 512) (n2 := 256) 0 (qr k i) j))
    (hw : w (ix2 (n0 := 128) (n1 := 256) i j) = SB2 m (q c) (ix2 (n0 := 512) (n1 := 256) (qr k i) j)) :
    quart v w (ix2 (n0 := 128) (n1 := 256) i j) = tot m c (qr k i) (hi j) := by
  refine (congrArg (fun z : EReal => z + w (ix2 (n0 := 128) (n1 := 256) i j)) (slab_cast v shapeCasts_S1x128x256_S128x256 i j)).trans ?_
  rw [hv, hw, YB_apply, SB2_apply, q_q]
  exact tot_b m c _ _

theorem a0 : quart (LA m c E0) (QA m c Q0) (ix2 (n0 := 128) (n1 := 256) i j) = tot m c (qr 0 i) (lo j) :=
  quart_a m c _ _ 0 i j (congrArg (YA m c) (emb_E0 i j)) (congrArg (SA2 m (r c)) (emb_Q0 i j))
theorem a1 : quart (LA m c E1) (QA m c Q1) (ix2 (n0 := 128) (n1 := 256) i j) = tot m c (qr 1 i) (lo j) :=
  quart_a m c _ _ 1 i j (congrArg (YA m c) (emb_E1 i j)) (congrArg (SA2 m (r c)) (emb_Q1 i j))
theorem a2 : quart (LA m c E2) (QA m c Q2) (ix2 (n0 := 128) (n1 := 256) i j) = tot m c (qr 2 i) (lo j) :=
  quart_a m c _ _ 2 i j (congrArg (YA m c) (emb_E2 i j)) (congrArg (SA2 m (r c)) (emb_Q2 i j))
theorem a3 : quart (LA m c E3) (QA m c Q3) (ix2 (n0 := 128) (n1 := 256) i j) = tot m c (qr 3 i) (lo j) :=
  quart_a m c _ _ 3 i j (congrArg (YA m c) (emb_E3 i j)) (congrArg (SA2 m (r c)) (emb_Q3 i j))
theorem b0 : quart (LB m c E0) (QB m c Q0) (ix2 (n0 := 128) (n1 := 256) i j) = tot m c (qr 0 i) (hi j) :=
  quart_b m c _ _ 0 i j (congrArg (YB m c) (emb_E0 i j)) (congrArg (SB2 m (q c)) (emb_Q0 i j))
theorem b1 : quart (LB m c E1) (QB m c Q1) (ix2 (n0 := 128) (n1 := 256) i j) = tot m c (qr 1 i) (hi j) :=
  quart_b m c _ _ 1 i j (congrArg (YB m c) (emb_E1 i j)) (congrArg (SB2 m (q c)) (emb_Q1 i j))
theorem b2 : quart (LB m c E2) (QB m c Q2) (ix2 (n0 := 128) (n1 := 256) i j) = tot m c (qr 2 i) (hi j) :=
  quart_b m c _ _ 2 i j (congrArg (YB m c) (emb_E2 i j)) (congrArg (SB2 m (q c)) (emb_Q2 i j))
theorem b3 : quart (LB m c E3) (QB m c Q3) (ix2 (n0 := 128) (n1 := 256) i j) = tot m c (qr 3 i) (hi j) :=
  quart_b m c _ _ 3 i j (congrArg (YB m c) (emb_E3 i j)) (congrArg (SB2 m (q c)) (emb_Q3 i j))

/-! ## A group of rows normalised -/

/-- The row sums of squares of a group's half, as a column. -/
def ssq (y : FVec Ideal S128x256 .f32) : FVec Ideal S128x1 .f32 :=
  shapeCast S128x1 (multiReduction .add [1] S128 (mulf y y) 0x00000000#32 reduces_S128x256_S128 (.inl rfl) rfl) shapeCasts_S128_S128x1

theorem ssq_apply (y : FVec Ideal S128x256 .f32) : ssq y (ix2 (n0 := 128) (n1 := 1) i 0) = ∑ k : Fin 256, (y (ix2 (n0 := 128) (n1 := 256) i k) * y (ix2 (n0 := 128) (n1 := 256) i k) : EReal) := by
  unfold ssq
  pointwise

/-- The half `y` of a group with halves `ya` and `yb`, normalised and weighted by `w`. -/
def scaled (y ya yb : FVec Ideal S128x256 .f32) (w : Vec Ideal S1x256 .f32) : FVec Ideal S128x256 .f32 :=
  mulf (mulf y (broadcastTo S128x256 (rsqrt (addf (divf (addf (ssq ya) (ssq yb)) (broadcast S128x1 (Scalar.ofBits .f32 0x44000000#32)))
    (broadcast S128x1 (Scalar.ofBits .f32 0x358637BD#32)))) broadcasts_S128x1_S128x256)) (broadcastTo S128x256 w broadcasts_S1x256_S128x256)

theorem scaled_apply (y ya yb : FVec Ideal S128x256 .f32) (w : Vec Ideal S1x256 .f32) :
    scaled y ya yb w (ix2 (n0 := 128) (n1 := 256) i j)
      = (y (ix2 (n0 := 128) (n1 := 256) i j) : EReal)
        * Ideal.rsqrt (Ideal.div (ssq ya (ix2 (n0 := 128) (n1 := 1) i 0) + ssq yb (ix2 (n0 := 128) (n1 := 1) i 0)) Norm.len + Norm.tiny)
        * w (ix2 (n0 := 1) (n1 := 256) 0 j) := by
  unfold scaled
  pointwise

/-- An entry of device `c`'s result. -/
def outv (i j : Fin 512) : EReal := tot m c i j * Ideal.rsqrt (Norm.mean (tot m c i)) * G (F := Ideal) m c (ix2 (n0 := 1) (n1 := 512) 0 j)

theorem group (k : Fin 4) (J : Fin 512) (y ya yb : FVec Ideal S128x256 .f32) (w : Vec Ideal S1x256 .f32)
    (ha : ∀ t, ya (ix2 (n0 := 128) (n1 := 256) i t) = tot m c (qr k i) (lo t)) (hb : ∀ t, yb (ix2 (n0 := 128) (n1 := 256) i t) = tot m c (qr k i) (hi t))
    (hy : y (ix2 (n0 := 128) (n1 := 256) i j) = tot m c (qr k i) J) (hw : w (ix2 (n0 := 1) (n1 := 256) 0 j) = G m c (ix2 (n0 := 1) (n1 := 512) 0 J)) :
    scaled y ya yb w (ix2 (n0 := 128) (n1 := 256) i j) = outv m c (qr k i) J := by
  rw [scaled_apply, ssq_apply, ssq_apply, hy, hw]
  simp only [ha, hb]
  rw [Norm.sum_halves (fun t => tot m c (qr k i) t * tot m c (qr k i) t) lo hi (fun _ => rfl) (fun _ => rfl)]
  rfl

theorem B00_apply : B00 (F := Ideal) m c (ix2 (n0 := 128) (n1 := 256) i j) = outv m c (qr 0 i) (lo j) :=
  group m c i j 0 _ (quart (LA m c E0) (QA m c Q0)) (quart (LA m c E0) (QA m c Q0)) (quart (LB m c E0) (QB m c Q0)) (WG m c G0)
    (fun t => a0 m c i t) (fun t => b0 m c i t) (a0 m c i j) (congrArg (G m c) (emb_G0 j))
theorem B01_apply : B01 (F := Ideal) m c (ix2 (n0 := 128) (n1 := 256) i j) = outv m c (qr 0 i) (hi j) :=
  group m c i j 0 _ (quart (LB m c E0) (QB m c Q0)) (quart (LA m c E0) (QA m c Q0)) (quart (LB m c E0) (QB m c Q0)) (WG m c G1)
    (fun t => a0 m c i t) (fun t => b0 m c i t) (b0 m c i j) (congrArg (G m c) (emb_G1 j))
theorem B10_apply : B10 (F := Ideal) m c (ix2 (n0 := 128) (n1 := 256) i j) = outv m c (qr 1 i) (lo j) :=
  group m c i j 1 _ (quart (LA m c E1) (QA m c Q1)) (quart (LA m c E1) (QA m c Q1)) (quart (LB m c E1) (QB m c Q1)) (WG m c G0)
    (fun t => a1 m c i t) (fun t => b1 m c i t) (a1 m c i j) (congrArg (G m c) (emb_G0 j))
theorem B11_apply : B11 (F := Ideal) m c (ix2 (n0 := 128) (n1 := 256) i j) = outv m c (qr 1 i) (hi j) :=
  group m c i j 1 _ (quart (LB m c E1) (QB m c Q1)) (quart (LA m c E1) (QA m c Q1)) (quart (LB m c E1) (QB m c Q1)) (WG m c G1)
    (fun t => a1 m c i t) (fun t => b1 m c i t) (b1 m c i j) (congrArg (G m c) (emb_G1 j))
theorem B20_apply : B20 (F := Ideal) m c (ix2 (n0 := 128) (n1 := 256) i j) = outv m c (qr 2 i) (lo j) :=
  group m c i j 2 _ (quart (LA m c E2) (QA m c Q2)) (quart (LA m c E2) (QA m c Q2)) (quart (LB m c E2) (QB m c Q2)) (WG m c G0)
    (fun t => a2 m c i t) (fun t => b2 m c i t) (a2 m c i j) (congrArg (G m c) (emb_G0 j))
theorem B21_apply : B21 (F := Ideal) m c (ix2 (n0 := 128) (n1 := 256) i j) = outv m c (qr 2 i) (hi j) :=
  group m c i j 2 _ (quart (LB m c E2) (QB m c Q2)) (quart (LA m c E2) (QA m c Q2)) (quart (LB m c E2) (QB m c Q2)) (WG m c G1)
    (fun t => a2 m c i t) (fun t => b2 m c i t) (b2 m c i j) (congrArg (G m c) (emb_G1 j))
theorem B30_apply : B30 (F := Ideal) m c (ix2 (n0 := 128) (n1 := 256) i j) = outv m c (qr 3 i) (lo j) :=
  group m c i j 3 _ (quart (LA m c E3) (QA m c Q3)) (quart (LA m c E3) (QA m c Q3)) (quart (LB m c E3) (QB m c Q3)) (WG m c G0)
    (fun t => a3 m c i t) (fun t => b3 m c i t) (a3 m c i j) (congrArg (G m c) (emb_G0 j))
theorem B31_apply : B31 (F := Ideal) m c (ix2 (n0 := 128) (n1 := 256) i j) = outv m c (qr 3 i) (hi j) :=
  group m c i j 3 _ (quart (LB m c E3) (QB m c Q3)) (quart (LA m c E3) (QA m c Q3)) (quart (LB m c E3) (QB m c Q3)) (WG m c G1)
    (fun t => a3 m c i t) (fun t => b3 m c i t) (b3 m c i j) (congrArg (G m c) (emb_G1 j))

/-! ## The result buffer -/

theorem row_miss (k : Fin 4) (J : Fin 512) (o p : Nat) (inb) (h : 128 * k.val + 128 ≤ o ∨ o + 128 ≤ 128 * k.val) :
    ix2 (n0 := 512) (n1 := 512) (qr k i) J ∉ (Rect.unit (s := S512x512) ![o, p] S128x256.size inb).set := fun hm => by
  have h0 : o ≤ 128 * k.val + i.val ∧ 128 * k.val + i.val < o + 128 := Rect.mem_set_unit.mp hm 0
  omega
theorem col_miss (k : Fin 4) (o : Nat) (inb) :
    ix2 (n0 := 512) (n1 := 512) (qr k i) (lo j) ∉ (Rect.unit (s := S512x512) ![o, 256] S128x256.size inb).set := fun hm => by
  have h1 : 256 ≤ j.val := (Rect.mem_set_unit.mp hm 1).1
  omega

theorem put_miss (R : Rect S512x512) (f : Vec Ideal S512x512 .f32) (w : Vec Ideal R.shape .f32) (x : S512x512.Idx) (h : x ∉ R.set) :
    (a2M.access R).write (Elt Ideal) f w Finset.univ x = f x :=
  write_miss (a2M.access R) f w (by rw [acc2]; exact h)
theorem put_hit (R : Rect S512x512) (f : Vec Ideal S512x512 .f32) (w : Vec Ideal R.shape .f32) {x : R.shape.Idx} {y : S512x512.Idx} (h : R.emb x = y) :
    (a2M.access R).write (Elt Ideal) f w Finset.univ y = w x :=
  write_hit (a2M.access R) f w h

theorem O0_lo (f : Vec Ideal S512x512 .f32) : O0 m c f (ix2 (n0 := 512) (n1 := 512) (qr 0 i) (lo j)) = outv m c (qr 0 i) (lo j) :=
  (put_miss U01 _ _ _ (col_miss i j 0 _ _)).trans ((put_hit U00 _ _ (emb_U00 i j)).trans (B00_apply m c i j))
theorem O0_hi (f : Vec Ideal S512x512 .f32) : O0 m c f (ix2 (n0 := 512) (n1 := 512) (qr 0 i) (hi j)) = outv m c (qr 0 i) (hi j) :=
  (put_hit U01 _ _ (emb_U01 i j)).trans (B01_apply m c i j)
theorem O0_row (f : Vec Ideal S512x512 .f32) (J : Fin 512) : O0 m c f (ix2 (n0 := 512) (n1 := 512) (qr 0 i) J) = outv m c (qr 0 i) J := by
  rcases half J with ⟨j, rfl⟩ | ⟨j, rfl⟩
  · exact O0_lo m c i j f
  · exact O0_hi m c i j f
theorem O1_lo (f : Vec Ideal S512x512 .f32) : O1 m c f (ix2 (n0 := 512) (n1 := 512) (qr 1 i) (lo j)) = outv m c (qr 1 i) (lo j) :=
  (put_miss U11 _ _ _ (col_miss i j 1 _ _)).trans ((put_hit U10 _ _ (emb_U10 i j)).trans (B10_apply m c i j))
theorem O1_hi (f : Vec Ideal S512x512 .f32) : O1 m c f (ix2 (n0 := 512) (n1 := 512) (qr 1 i) (hi j)) = outv m c (qr 1 i) (hi j) :=
  (put_hit U11 _ _ (emb_U11 i j)).trans (B11_apply m c i j)
theorem O1_row (f : Vec Ideal S512x512 .f32) (J : Fin 512) : O1 m c f (ix2 (n0 := 512) (n1 := 512) (qr 1 i) J) = outv m c (qr 1 i) J := by
  rcases half J with ⟨j, rfl⟩ | ⟨j, rfl⟩
  · exact O1_lo m c i j f
  · exact O1_hi m c i j f
theorem O1_miss (f : Vec Ideal S512x512 .f32) (k : Fin 4) (J : Fin 512) (h : k.val < 1) : O1 m c f (ix2 (n0 := 512) (n1 := 512) (qr k i) J) = f (ix2 (n0 := 512) (n1 := 512) (qr k i) J) :=
  (put_miss U11 _ _ _ (row_miss i k J 128 256 _ (by omega))).trans (put_miss U10 _ _ _ (row_miss i k J 128 0 _ (by omega)))
theorem O2_lo (f : Vec Ideal S512x512 .f32) : O2 m c f (ix2 (n0 := 512) (n1 := 512) (qr 2 i) (lo j)) = outv m c (qr 2 i) (lo j) :=
  (put_miss U21 _ _ _ (col_miss i j 2 _ _)).trans ((put_hit U20 _ _ (emb_U20 i j)).trans (B20_apply m c i j))
theorem O2_hi (f : Vec Ideal S512x512 .f32) : O2 m c f (ix2 (n0 := 512) (n1 := 512) (qr 2 i) (hi j)) = outv m c (qr 2 i) (hi j) :=
  (put_hit U21 _ _ (emb_U21 i j)).trans (B21_apply m c i j)
theorem O2_row (f : Vec Ideal S512x512 .f32) (J : Fin 512) : O2 m c f (ix2 (n0 := 512) (n1 := 512) (qr 2 i) J) = outv m c (qr 2 i) J := by
  rcases half J with ⟨j, rfl⟩ | ⟨j, rfl⟩
  · exact O2_lo m c i j f
  · exact O2_hi m c i j f
theorem O2_miss (f : Vec Ideal S512x512 .f32) (k : Fin 4) (J : Fin 512) (h : k.val < 2) : O2 m c f (ix2 (n0 := 512) (n1 := 512) (qr k i) J) = f (ix2 (n0 := 512) (n1 := 512) (qr k i) J) :=
  (put_miss U21 _ _ _ (row_miss i k J 256 256 _ (by omega))).trans (put_miss U20 _ _ _ (row_miss i k J 256 0 _ (by omega)))
theorem O3_lo (f : Vec Ideal S512x512 .f32) : O3 m c f (ix2 (n0 := 512) (n1 := 512) (qr 3 i) (lo j)) = outv m c (qr 3 i) (lo j) :=
  (put_miss U31 _ _ _ (col_miss i j 3 _ _)).trans ((put_hit U30 _ _ (emb_U30 i j)).trans (B30_apply m c i j))
theorem O3_hi (f : Vec Ideal S512x512 .f32) : O3 m c f (ix2 (n0 := 512) (n1 := 512) (qr 3 i) (hi j)) = outv m c (qr 3 i) (hi j) :=
  (put_hit U31 _ _ (emb_U31 i j)).trans (B31_apply m c i j)
theorem O3_row (f : Vec Ideal S512x512 .f32) (J : Fin 512) : O3 m c f (ix2 (n0 := 512) (n1 := 512) (qr 3 i) J) = outv m c (qr 3 i) J := by
  rcases half J with ⟨j, rfl⟩ | ⟨j, rfl⟩
  · exact O3_lo m c i j f
  · exact O3_hi m c i j f
theorem O3_miss (f : Vec Ideal S512x512 .f32) (k : Fin 4) (J : Fin 512) (h : k.val < 3) : O3 m c f (ix2 (n0 := 512) (n1 := 512) (qr k i) J) = f (ix2 (n0 := 512) (n1 := 512) (qr k i) J) :=
  (put_miss U31 _ _ _ (row_miss i k J 384 256 _ (by omega))).trans (put_miss U30 _ _ _ (row_miss i k J 384 0 _ (by omega)))

theorem RES_apply (i j : Fin 512) : RES (F := Ideal) m c (ix2 (n0 := 512) (n1 := 512) i j) = outv m c i j := by
  obtain ⟨k, t, rfl⟩ := quarter i
  have hk : k = 0 ∨ k = 1 ∨ k = 2 ∨ k = 3 := by revert k; decide
  rcases hk with rfl | rfl | rfl | rfl
  · exact (O3_miss m c t _ 0 j (by decide)).trans ((O2_miss m c t _ 0 j (by decide)).trans ((O1_miss m c t _ 0 j (by decide)).trans (O0_row m c t _ j)))
  · exact (O3_miss m c t _ 1 j (by decide)).trans ((O2_miss m c t _ 1 j (by decide)).trans (O1_row m c t _ j))
  · exact (O3_miss m c t _ 2 j (by decide)).trans (O2_row m c t _ j)
  · exact O3_row m c t _ j

end Cert.KernelIdeal.Mesh
-- ==== Proof.Value.lean ====
/- The value claim: what the reference computes from the whole arrays, entry by entry, and that each device's result is its block of that. -/
module

public import proofs.«01_k».proof.Proof.Frames
public import proofs.«01_k».proof.Proof.Blocks

@[expose] public section

set_option maxRecDepth 16384

noncomputable section

namespace Cert.Proof

open Idealize.ShloMosaic Idealize.ShloMosaic.TcCoe Idealize.SL.Sem
open scoped BigOperators

/-! ## The reference -/

section reference
open Cert.ReferenceIdeal Cert.ReferenceIdeal.Gen

/-- The sum over the devices, and the weighted normalised rows. -/
def refSum (a : Vec Ideal S4x2048x512 .f32) : FVec Ideal S2048x512 .f32 :=
  Host.reduceAdd a (constant S_ .f32 0x00000000#32) reducesTo_S4x2048x512_S2048x512_d0 h_S_
def refOut (y : FVec Ideal S2048x512 .f32) (g : Vec Ideal S512 .f32) : FVec Ideal S2048x512 .f32 :=
  mulf (Host.divf y (broadcastInDim S2048x512 ![0, 1] bcast_S2048x1_S2048x512_0_1
    (Host.sqrt (addf (Host.divf (broadcastInDim S2048x1 ![0] bcast_S2048_S2048x1_0
      (Host.reduceAdd (mulf y y) (constant S_ .f32 0x00000000#32) reducesTo_S2048x512_S2048_d1 h_S_))
        (broadcastInDim S2048x1 ![] bcast_S_S2048x1 (constant S_ .f32 0x44000000#32)))
        (broadcastInDim S2048x1 ![] bcast_S_S2048x1 (constant S_ .f32 0x358637BD#32))))))
    (broadcastInDim S2048x512 ![0, 1] bcast_S1x512_S2048x512_0_1 (broadcastInDim S1x512 ![1] bcast_S512_S1x512_1 g))

theorem refSum_apply (a : Vec Ideal S4x2048x512 .f32) (i : Fin 2048) (j : Fin 512) :
    refSum a (ix2 (n0 := 2048) (n1 := 512) i j) = ∑ d : Fin 4, (a (ix3 (n0 := 4) (n1 := 2048) (n2 := 512) d i j) : EReal) := by
  unfold refSum
  pointwise

theorem refOut_apply (y : FVec Ideal S2048x512 .f32) (g : Vec Ideal S512 .f32) (i : Fin 2048) (j : Fin 512) :
    refOut y g (ix2 (n0 := 2048) (n1 := 512) i j)
      = Ideal.div (y (ix2 (n0 := 2048) (n1 := 512) i j)) (Ideal.sqrt (Norm.mean fun k => y (ix2 (n0 := 2048) (n1 := 512) i k))) * (g (ix1 (n0 := 512) j) : EReal) := by
  unfold refOut Norm.mean
  pointwise

end reference

/-! ## The kernel's arguments, as the region finds them -/

section kernel
open Cert.KernelIdeal Cert.KernelIdeal.Gen Cert.KernelIdeal.Mesh

variable (m : (ℓ : Loc nD τ sig) → Buf (Elt Ideal) ℓ) (c : Dev nD)

theorem X_eq : X (F := Ideal) m c = shapeCast S2048x512 (m ((c : Thread nD τ).loc main_arg0)) shapeCasts_S1x2048x512_S2048x512 := by
  unfold X V
  after_results
  rfl
theorem G_eq : G (F := Ideal) m c = shapeCast S1x512 (m ((c : Thread nD τ).loc main_arg1)) shapeCasts_S512_S1x512 := by
  unfold G V
  after_results
  rfl

theorem G_apply (j : Fin 512) : G (F := Ideal) m c (ix2 (n0 := 1) (n1 := 512) 0 j) = m ((c : Thread nD τ).loc main_arg1) (ix1 (n0 := 512) j) := by
  rw [G_eq]
  exact congrArg (m ((c : Thread nD τ).loc main_arg1)) (Shape.reshapeEquiv_eq_of_vals _ _ _ _ _ (rowMajor_val1 _) (rowMajor_val2 _ 512 rfl) (by simp))

/-- Row `i` of device `e`'s rows, among all of them. -/
def row (e : Dev nD) (i : Fin 512) : Fin 2048 := ⟨512 * e.val + i.val, by have : e.val < 4 := e.isLt; omega⟩

theorem blk_apply (d e : Dev nD) (i j : Fin 512) :
    blk (F := Ideal) m d e i j = m ((d : Thread nD τ).loc main_arg0) (ix3 (n0 := 1) (n1 := 2048) (n2 := 512) 0 (row e i) j) := by
  unfold blk
  rw [X_eq]
  exact slab_cast (m ((d : Thread nD τ).loc main_arg0)) shapeCasts_S1x2048x512_S2048x512 (row e i) j

end kernel

/-! ## A device's block -/

theorem block_rows (v : (⟨2, ![2048, 512]⟩ : Shape).Idx → EReal) (c : Fin 4) (i j : Fin 512) :
    Layout.block ⟨2, ![512, 512]⟩ ⟨2, ![2048, 512]⟩ 0 4 c v (by decide) (ix2 i j) = v (ix2 (row c i) j) := by
  refine congrArg v (funext fun a => Fin.ext ?_)
  match a with
  | ⟨0, _⟩ => exact congrArg (· + i.val) (Nat.mul_comm c.val 512)
  | ⟨1, _⟩ => rfl

theorem block_slab (v : (⟨3, ![4, 2048, 512]⟩ : Shape).Idx → EReal) (c : Fin 4) (i : Fin 2048) (j : Fin 512) :
    Layout.block ⟨3, ![1, 2048, 512]⟩ ⟨3, ![4, 2048, 512]⟩ 0 4 c v (by decide) (ix3 0 i j) = v (ix3 c i j) := by
  refine congrArg v (funext fun a => Fin.ext ?_)
  match a with
  | ⟨0, _⟩ => exact (congrArg (· + 0) (Nat.mul_one c.val))
  | ⟨1, _⟩ => rfl
  | ⟨2, _⟩ => rfl

/-- A device's result is its block of the reference's, where the arguments are those of the reference. -/
theorem result_eq (m : (ℓ : Loc Cert.KernelIdeal.nD Cert.KernelIdeal.τ Cert.KernelIdeal.sig) → Buf (Elt Ideal) ℓ)
    (a : Vec Ideal ⟨3, ![4, 2048, 512]⟩ .f32) (g : Vec Ideal ⟨1, ![512]⟩ .f32)
    (hx : ∀ c : Dev Cert.KernelIdeal.nD, m ((c.tc : Thread Cert.KernelIdeal.nD Cert.KernelIdeal.τ).loc Cert.KernelIdeal.main_arg0) = Layout.block ⟨3, ![1, 2048, 512]⟩ ⟨3, ![4, 2048, 512]⟩ 0 4 c a)
    (hg : ∀ c : Dev Cert.KernelIdeal.nD, m ((c.tc : Thread Cert.KernelIdeal.nD Cert.KernelIdeal.τ).loc Cert.KernelIdeal.main_arg1) = g) (c : Dev Cert.KernelIdeal.nD) :
    Cert.KernelIdeal.Mesh.RES (F := Ideal) m c = Layout.block ⟨2, ![512, 512]⟩ ⟨2, ![2048, 512]⟩ 0 4 c (refOut (refSum a) g) := by
  have ht : ∀ i j, Cert.KernelIdeal.Mesh.tot m c i j = refSum a (ix2 (n0 := 2048) (n1 := 512) (row c i) j) := fun i j => by
    rw [refSum_apply]
    exact Finset.sum_congr rfl fun d _ => (blk_apply m d c i j).trans ((congrFun (hx d) _).trans (block_slab a d _ _))
  funext x
  obtain ⟨i, j, rfl⟩ : ∃ i j, x = ix2 (n0 := 512) (n1 := 512) i j := ⟨x 0, x 1, eq_ix2 x⟩
  refine (Cert.KernelIdeal.Mesh.RES_apply m c i j).trans (Eq.trans ?_ (block_rows _ c i j).symm)
  rw [refOut_apply]
  unfold Cert.KernelIdeal.Mesh.outv
  rw [Norm.scale_eq, G_apply, hg c, ht i j]
  simp only [funext (ht i)]

/-! ## The claim -/

theorem value : Cert.algebraic_KernelIdeal_ReferenceIdeal (hKernelIdeal := Cert.KernelIdeal.Gen.facts) (hReferenceIdeal := Cert.ReferenceIdeal.Gen.facts) :=
  fun m g m' g' _ hin => ⟨_,
    (θ_run (Cert.KernelIdeal.defs (F := Ideal)) _ _).mono
      (fun _ h c => ⟨(h.1 c).1.trans (result_eq m _ _ (fun c => (hin c).1) (fun c => (hin c).2) c), (h.1 c).2⟩)
      (Cert.KernelIdeal.Mesh.run_main (F := Ideal) m g),
    (θ_run (Cert.ReferenceIdeal.defs (F := Ideal)) _ _).mono (fun _ h => h 0) (Cert.ReferenceIdeal.Value.run (F := Ideal) m' g')⟩

end Cert.Proof

end
-- ==== Proof.lean ====
/- The certificate: the claims of the generated `Cert.Claim`, each from the module that proves it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, value⟩

end Cert.Proof

end
